-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128x128x128 : Shape := ⟨4, ![8, 128, 128, 128]⟩
abbrev S128x128x3x3 : Shape := ⟨4, ![128, 128, 3, 3]⟩
abbrev S128 : Shape := ⟨1, ![128]⟩
abbrev S32x128x1x1 : Shape := ⟨4, ![32, 128, 1, 1]⟩
abbrev S32 : Shape := ⟨1, ![32]⟩
abbrev S_ : Shape := ⟨0, ![]⟩
abbrev S8x128x130x128 : Shape := ⟨4, ![8, 128, 130, 128]⟩
abbrev S8x128x16640 : Shape := ⟨3, ![8, 128, 16640]⟩
abbrev S3x3x128x128 : Shape := ⟨4, ![3, 3, 128, 128]⟩
abbrev S9x128x128 : Shape := ⟨3, ![9, 128, 128]⟩
abbrev S128x1 : Shape := ⟨2, ![128, 1]⟩
abbrev S128x512 : Shape := ⟨2, ![128, 512]⟩
abbrev S32x128 : Shape := ⟨2, ![32, 128]⟩
abbrev S32x1 : Shape := ⟨2, ![32, 1]⟩
abbrev S32x512 : Shape := ⟨2, ![32, 512]⟩
abbrev S180 : Shape := ⟨1, ![180]⟩
abbrev S128x128 : Shape := ⟨2, ![128, 128]⟩
abbrev S1x128x128 : Shape := ⟨3, ![1, 128, 128]⟩
abbrev S180x1x1 : Shape := ⟨3, ![180, 1, 1]⟩
abbrev S180x128x128 : Shape := ⟨3, ![180, 128, 128]⟩
abbrev S180x1x16384 : Shape := ⟨3, ![180, 1, 16384]⟩
abbrev S8x32x16384 : Shape := ⟨3, ![8, 32, 16384]⟩
abbrev S8x1x16384 : Shape := ⟨3, ![8, 1, 16384]⟩
abbrev S1x128x16640 : Shape := ⟨3, ![1, 128, 16640]⟩
abbrev S1x32x16384 : Shape := ⟨3, ![1, 32, 16384]⟩
abbrev S1x1x16384 : Shape := ⟨3, ![1, 1, 16384]⟩
abbrev S1x768 : Shape := ⟨2, ![1, 768]⟩
abbrev S1x128x768 : Shape := ⟨3, ![1, 128, 768]⟩
abbrev S128x768 : Shape := ⟨2, ![128, 768]⟩
abbrev S128x767 : Shape := ⟨2, ![128, 767]⟩
abbrev S1x32x512 : Shape := ⟨3, ![1, 32, 512]⟩
abbrev S512 : Shape := ⟨1, ![512]⟩
abbrev S1x512 : Shape := ⟨2, ![1, 512]⟩
abbrev S1x1x512 : Shape := ⟨3, ![1, 1, 512]⟩
abbrev S184x16384 : Shape := ⟨2, ![184, 16384]⟩
abbrev S8x16384 : Shape := ⟨2, ![8, 16384]⟩
abbrev S1x16384 : Shape := ⟨2, ![1, 16384]⟩
abbrev S184x2048 : Shape := ⟨2, ![184, 2048]⟩
abbrev S1x2048 : Shape := ⟨2, ![1, 2048]⟩
abbrev S8x2048 : Shape := ⟨2, ![8, 2048]⟩
abbrev S8x184 : Shape := ⟨2, ![8, 184]⟩
abbrev S8x1x2048 : Shape := ⟨3, ![8, 1, 2048]⟩
abbrev S32x16384 : Shape := ⟨2, ![32, 16384]⟩
abbrev S8x32x128x128 : Shape := ⟨4, ![8, 32, 128, 128]⟩

abbrev nBuf : Space → Nat
  | .hbm => 78
  | .vmem => 20
  | .smem => 0
  | _ => 0

abbrev bufTy : (tb : Table) → Fin (tcTables nBuf tb) → BufTy
  | .hbm, ⟨0, _⟩ => ⟨S8x128x128x128, .f32⟩
  | .hbm, ⟨1, _⟩ => ⟨S128x128x3x3, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S32x128x1x1, .f32⟩
  | .hbm, ⟨7, _⟩ => ⟨S32, .f32⟩
  | .hbm, ⟨8, _⟩ => ⟨S_, .i32⟩
  | .hbm, ⟨9, _⟩ => ⟨S_, .f32⟩
  | .hbm, ⟨10, _⟩ => ⟨S8x128x130x128, .f32⟩
  | .hbm, ⟨11, _⟩ => ⟨S8x128x16640, .f32⟩
  | .hbm, ⟨12, _⟩ => ⟨S3x3x128x128, .f32⟩
  | .hbm, ⟨13, _⟩ => ⟨S9x128x128, .f32⟩
  | .hbm, ⟨14, _⟩ => ⟨S_, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S128x1, .f32⟩
  | .hbm, ⟨20, _⟩ => ⟨S128x512, .f32⟩
  | .hbm, ⟨21, _⟩ => ⟨S128, .f32⟩
  | .hbm, ⟨22, _⟩ => ⟨S128, .f32⟩
  | .hbm, ⟨23, _⟩ => ⟨S128x1, .f32⟩
  | .hbm, ⟨24, _⟩ => ⟨S128x512, .f32⟩
  | .hbm, ⟨25, _⟩ => ⟨S32x128, .f32⟩
  | .hbm, ⟨26, _⟩ => ⟨S32x1, .f32⟩
  | .hbm, ⟨27, _⟩ => ⟨S32x512, .f32⟩
  | .hbm, ⟨28, _⟩ => ⟨S180, .f32⟩
  | .hbm, ⟨29, _⟩ => ⟨S_, .f32⟩
  | .hbm, ⟨30, _⟩ => ⟨S180, .f32⟩
  | .hbm, ⟨31, _⟩ => ⟨S180, .f32⟩
  | .hbm, ⟨32, _⟩ => ⟨S128, .f32⟩
  | .hbm, ⟨33, _⟩ => ⟨S128, .f32⟩
  | .hbm, ⟨34, _⟩ => ⟨S128x128, .f32⟩
  | .hbm, ⟨35, _⟩ => ⟨S128x128, .f32⟩
  | .hbm, ⟨36, _⟩ => ⟨S_, .f32⟩
  | .hbm, ⟨37, _⟩ => ⟨S128x128, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S128x128, .f32⟩
  | .hbm, ⟨42, _⟩ => ⟨S1x128x128, .f32⟩
  | .hbm, ⟨43, _⟩ => ⟨S180, .f32⟩
  | .hbm, ⟨44, _⟩ => ⟨S180x1x1, .f32⟩
  | .hbm, ⟨45, _⟩ => ⟨S180x128x128, .f32⟩
  | .hbm, ⟨46, _⟩ => ⟨S180x128x128, .f32⟩
  | .hbm, ⟨47, _⟩ => ⟨S180x128x128, .f32⟩
  | .hbm, ⟨48, _⟩ => ⟨S1x128x128, .f32⟩
  | .hbm, ⟨49, _⟩ => ⟨S180, .f32⟩
  | .hbm, ⟨50, _⟩ => ⟨S180x1x1, .f32⟩
  | .hbm, ⟨51, _⟩ => ⟨S180x128x128, .f32⟩
  | .hbm, ⟨52, _⟩ => ⟨S180x128x128, .f32⟩
  | .hbm, ⟨53, _⟩ => ⟨S180x128x128, .f32⟩
  | .hbm, ⟨54, _⟩ => ⟨S180x128x128, .f32⟩
  | .hbm, ⟨55, _⟩ => ⟨S_, .f32⟩
  | .hbm, ⟨56, _⟩ => ⟨S180x128x128, .f32⟩
  | .hbm, ⟨57, _⟩ => ⟨S180x128x128, .f32⟩
  | .hbm, ⟨58, _⟩ => ⟨S180x128x128, .f32⟩
  | .hbm, ⟨59, _⟩ => ⟨S180x128x128, .i32⟩
  | .hbm, ⟨60, _⟩ => ⟨S_, .i32⟩
  | .hbm, ⟨61, _⟩ => ⟨S180x128x128, .i32⟩
  | .hbm, ⟨62, _⟩ => ⟨S180x128x128, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S180x128x128, .i32⟩
  | .hbm, ⟨67, _⟩ => ⟨S180x128x128, .i32⟩
  | .hbm, ⟨68, _⟩ => ⟨S_, .i32⟩
  | .hbm, ⟨69, _⟩ => ⟨S180x128x128, .i32⟩
  | .hbm, ⟨70, _⟩ => ⟨S180x128x128, .i32⟩
  | .hbm, ⟨71, _⟩ => ⟨S180x1x16384, .i32⟩
  | .hbm, ⟨72, _⟩ => ⟨S8x32x16384, .f32⟩
  | .hbm, ⟨73, _⟩ => ⟨S8x1x16384, .f32⟩
  | .hbm, ⟨74, _⟩ => ⟨S8x1x16384, .f32⟩
  | .hbm, ⟨75, _⟩ => ⟨S8x32x16384, .f32⟩
  | .hbm, ⟨76, _⟩ => ⟨S8x32x128x128, .f32⟩
  | .hbm, ⟨77, _⟩ => ⟨S8x32x128x128, .f32⟩
  | .local _ .vmem, ⟨0, _⟩ => ⟨S1x128x16640, .f32⟩
  | .local _ .vmem, ⟨1, _⟩ => ⟨S1x128x16640, .f32⟩
  | .local _ .vmem, ⟨2, _⟩ => ⟨S9x128x128, .f32⟩
  | .local _ .vmem, ⟨3, _⟩ => ⟨S128x512, .f32⟩
  | .local _ .vmem, ⟨4, _⟩ => ⟨S128x512, .f32⟩
  | .local _ .vmem, ⟨5, _⟩ => ⟨S32x128, .f32⟩
  | .local _ .vmem, ⟨6, _⟩ => ⟨S32x512, .f32⟩
  | .local _ .vmem, ⟨7, _⟩ => ⟨S1x32x16384, .f32⟩
  | .local _ .vmem, ⟨8, _⟩ => ⟨S1x32x16384, .f32⟩
  | .local _ .vmem, ⟨9, _⟩ => ⟨S1x1x16384, .f32⟩
  | .local _ .vmem, ⟨10, _⟩ => ⟨S1x1x16384, .f32⟩
  | .local _ .vmem, ⟨11, _⟩ => ⟨S1x1x16384, .i32⟩
  | .local _ .vmem, ⟨12, _⟩ => ⟨S1x1x16384, .i32⟩
  | .local _ .vmem, ⟨13, _⟩ => ⟨S8x1x16384, .f32⟩
  | .local _ .vmem, ⟨14, _⟩ => ⟨S8x1x16384, .f32⟩
  | .local _ .vmem, ⟨15, _⟩ => ⟨S184x16384, .f32⟩
  | .local _ .vmem, ⟨16, _⟩ => ⟨S1x1x16384, .f32⟩
  | .local _ .vmem, ⟨17, _⟩ => ⟨S1x1x16384, .f32⟩
  | .local _ .vmem, ⟨18, _⟩ => ⟨S1x32x16384, .f32⟩
  | .local _ .vmem, ⟨19, _⟩ => ⟨S1x32x16384, .f32⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_4 : Ref sig .tc := ⟨.hbm, 60, rfl⟩
abbrev main_v45 : Ref sig .tc := ⟨.hbm, 61, rfl⟩
abbrev main_v46 : Ref sig .tc := ⟨.hbm, 62, rfl⟩
abbrev main_c_5 : Ref sig .tc := ⟨.hbm, 63, rfl⟩
abbrev main_c_6 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_v47 : Ref sig .tc := ⟨.hbm, 70, rfl⟩
abbrev main_v48 : Ref sig .tc := ⟨.hbm, 71, rfl⟩
abbrev main_v49_0 : Ref sig .tc := ⟨.hbm, 72, rfl⟩
abbrev main_v49_1 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc2_sem0_0 : DmaSem sig := 15
abbrev cc2_sem0_1 : DmaSem sig := 16
abbrev cc2_sem1_0 : DmaSem sig := 17
abbrev cc2_sem1_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x16640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x16384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x16384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![180], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S1x1x16384 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x1x16384 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x1x16384 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x32x16384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]
-- ==== ReferenceIdeal.lean ====
abbrev S8x128x128x128 : Shape := ⟨4, ![8, 128, 128, 128]⟩
abbrev S128x128x3x3 : Shape := ⟨4, ![128, 128, 3, 3]⟩
abbrev S128 : Shape := ⟨1, ![128]⟩
abbrev S32x128x1x1 : Shape := ⟨4, ![32, 128, 1, 1]⟩
abbrev S32 : Shape := ⟨1, ![32]⟩
abbrev S_ : Shape := ⟨0, ![]⟩
abbrev S8x128x130x130 : Shape := ⟨4, ![8, 128, 130, 130]⟩
abbrev S128x128x1x1 : Shape := ⟨4, ![128, 128, 1, 1]⟩
abbrev S128x128 : Shape := ⟨2, ![128, 128]⟩
abbrev S1x128x1x1 : Shape := ⟨4, ![1, 128, 1, 1]⟩
abbrev S32x128 : Shape := ⟨2, ![32, 128]⟩
abbrev S8x128x128x32 : Shape := ⟨4, ![8, 128, 128, 32]⟩
abbrev S8x32x128x128 : Shape := ⟨4, ![8, 32, 128, 128]⟩
abbrev S1x32x1x1 : Shape := ⟨4, ![1, 32, 1, 1]⟩
abbrev S180 : Shape := ⟨1, ![180]⟩
abbrev S1x128x128 : Shape := ⟨3, ![1, 128, 128]⟩
abbrev S180x1x1 : Shape := ⟨3, ![180, 1, 1]⟩
abbrev S180x128x128 : Shape := ⟨3, ![180, 128, 128]⟩
abbrev S180x16384 : Shape := ⟨2, ![180, 16384]⟩
abbrev S8x32x16384 : Shape := ⟨3, ![8, 32, 16384]⟩
abbrev S16384x8x32 : Shape := ⟨3, ![16384, 8, 32]⟩
abbrev S180x184x8x32 : Shape := ⟨4, ![180, 184, 8, 32]⟩
abbrev S180x1 : Shape := ⟨2, ![180, 1]⟩
abbrev S1x16384x8x32 : Shape := ⟨4, ![1, 16384, 8, 32]⟩
abbrev S180x16384x1 : Shape := ⟨3, ![180, 16384, 1]⟩
abbrev S180x16384x2 : Shape := ⟨3, ![180, 16384, 2]⟩
abbrev S180x16384x8x32 : Shape := ⟨4, ![180, 16384, 8, 32]⟩
abbrev S8x32x180x184 : Shape := ⟨4, ![8, 32, 180, 184]⟩
abbrev S8x180x184 : Shape := ⟨3, ![8, 180, 184]⟩
abbrev S8x180x16384 : Shape := ⟨3, ![8, 180, 16384]⟩
abbrev S8x16384 : Shape := ⟨2, ![8, 16384]⟩
abbrev S8x1x128x128 : Shape := ⟨4, ![8, 1, 128, 128]⟩

abbrev nBuf : Space → Nat
  | .hbm => 199
  | .vmem => 0
  | .smem => 0
  | _ => 0

abbrev hbmTy0_0 (i : Nat) : BufTy := match i % 128 with
  | 0 => ⟨S8x128x128x128, .f32⟩
  | 1 => ⟨S128x128x3x3, .f32⟩
  | 2 => ⟨S128, .f32⟩
  | 3 => ⟨S128, .f32⟩
  | 4 => ⟨S128, .f32⟩
  | 5 => ⟨S128, .f32⟩
  | 6 => ⟨S32x128x1x1, .f32⟩
  | 7 => ⟨S32, .f32⟩
  | 8 => ⟨S_, .i32⟩
  | 9 => ⟨S_, .f32⟩
  | 10 => ⟨S8x128x130x130, .f32⟩
  | 11 => ⟨S_, .f32⟩
  | 12 => ⟨S8x128x128x128, .f32⟩
  | 13 => ⟨S128x128x1x1, .f32⟩
  | 14 => ⟨S128x128, .f32⟩
  | 15 => ⟨S8x128x128x128, .f32⟩
  | 16 => ⟨S8x128x128x128, .f32⟩
  | 17 => ⟨S8x128x128x128, .f32⟩
  | 18 => ⟨S8x128x128x128, .f32⟩
  | 19 => ⟨S128x128x1x1, .f32⟩
  | 20 => ⟨S128x128, .f32⟩
  | 21 => ⟨S8x128x128x128, .f32⟩
  | 22 => ⟨S8x128x128x128, .f32⟩
  | 23 => ⟨S8x128x128x128, .f32⟩
  | 24 => ⟨S8x128x128x128, .f32⟩
  | 25 => ⟨S128x128x1x1, .f32⟩
  | 26 => ⟨S128x128, .f32⟩
  | 27 => ⟨S8x128x128x128, .f32⟩
  | 28 => ⟨S8x128x128x128, .f32⟩
  | 29 => ⟨S8x128x128x128, .f32⟩
  | 30 => ⟨S8x128x128x128, .f32⟩
  | 31 => ⟨S128x128x1x1, .f32⟩
  | 32 => ⟨S128x128, .f32⟩
  | 33 => ⟨S8x128x128x128, .f32⟩
  | 34 => ⟨S8x128x128x128, .f32⟩
  | 35 => ⟨S8x128x128x128, .f32⟩
  | 36 => ⟨S8x128x128x128, .f32⟩
  | 37 => ⟨S128x128x1x1, .f32⟩
  | 38 => ⟨S128x128, .f32⟩
  | 39 => ⟨S8x128x128x128, .f32⟩
  | 40 => ⟨S8x128x128x128, .f32⟩
  | 41 => ⟨S8x128x128x128, .f32⟩
  | 42 => ⟨S8x128x128x128, .f32⟩
  | 43 => ⟨S128x128x1x1, .f32⟩
  | 44 => ⟨S128x128, .f32⟩
  | 45 => ⟨S8x128x128x128, .f32⟩
  | 46 => ⟨S8x128x128x128, .f32⟩
  | 47 => ⟨S8x128x128x128, .f32⟩
  | 48 => ⟨S8x128x128x128, .f32⟩
  | 49 => ⟨S128x128x1x1, .f32⟩
  | 50 => ⟨S128x128, .f32⟩
  | 51 => ⟨S8x128x128x128, .f32⟩
  | 52 => ⟨S8x128x128x128, .f32⟩
  | 53 => ⟨S8x128x128x128, .f32⟩
  | 54 => ⟨S8x128x128x128, .f32⟩
  | 55 => ⟨S128x128x1x1, .f32⟩
  | 56 => ⟨S128x128, .f32⟩
  | 57 => ⟨S8x128x128x128, .f32⟩
  | 58 => ⟨S8x128x128x128, .f32⟩
  | 59 => ⟨S8x128x128x128, .f32⟩
  | 60 => ⟨S8x128x128x128, .f32⟩
  | 61 => ⟨S128x128x1x1, .f32⟩
  | 62 => ⟨S128x128, .f32⟩
  | 63 => ⟨S8x128x128x128, .f32⟩
  | 64 => ⟨S8x128x128x128, .f32⟩
  | 65 => ⟨S8x128x128x128, .f32⟩
  | 66 => ⟨S8x128x128x128, .f32⟩
  | 67 => ⟨S_, .f32⟩
  | 68 => ⟨S128, .f32⟩
  | 69 => ⟨S128, .f32⟩
  | 70 => ⟨S128, .f32⟩
  | 71 => ⟨S128, .f32⟩
  | 72 => ⟨S1x128x1x1, .f32⟩
  | 73 => ⟨S8x128x128x128, .f32⟩
  | 74 => ⟨S8x128x128x128, .f32⟩
  | 75 => ⟨S128, .f32⟩
  | 76 => ⟨S128, .f32⟩
  | 77 => ⟨S1x128x1x1, .f32⟩
  | 78 => ⟨S8x128x128x128, .f32⟩
  | 79 => ⟨S8x128x128x128, .f32⟩
  | 80 => ⟨S_, .f32⟩
  | 81 => ⟨S8x128x128x128, .f32⟩
  | 82 => ⟨S8x128x128x128, .f32⟩
  | 83 => ⟨S32x128, .f32⟩
  | 84 => ⟨S8x128x128x32, .f32⟩
  | 85 => ⟨S8x32x128x128, .f32⟩
  | 86 => ⟨S1x32x1x1, .f32⟩
  | 87 => ⟨S8x32x128x128, .f32⟩
  | 88 => ⟨S8x32x128x128, .f32⟩
  | 89 => ⟨S180, .f32⟩
  | 90 => ⟨S_, .f32⟩
  | 91 => ⟨S180, .f32⟩
  | 92 => ⟨S180, .f32⟩
  | 93 => ⟨S128, .f32⟩
  | 94 => ⟨S128, .f32⟩
  | 95 => ⟨S128x128, .f32⟩
  | 96 => ⟨S128x128, .f32⟩
  | 97 => ⟨S_, .f32⟩
  | 98 => ⟨S128x128, .f32⟩
  | 99 => ⟨S128x128, .f32⟩
  | 100 => ⟨S_, .f32⟩
  | 101 => ⟨S128x128, .f32⟩
  | 102 => ⟨S128x128, .f32⟩
  | 103 => ⟨S1x128x128, .f32⟩
  | 104 => ⟨S180, .f32⟩
  | 105 => ⟨S180x1x1, .f32⟩
  | 106 => ⟨S180x128x128, .f32⟩
  | 107 => ⟨S180x128x128, .f32⟩
  | 108 => ⟨S180x128x128, .f32⟩
  | 109 => ⟨S1x128x128, .f32⟩
  | 110 => ⟨S180, .f32⟩
  | 111 => ⟨S180x1x1, .f32⟩
  | 112 => ⟨S180x128x128, .f32⟩
  | 113 => ⟨S180x128x128, .f32⟩
  | 114 => ⟨S180x128x128, .f32⟩
  | 115 => ⟨S180x128x128, .f32⟩
  | 116 => ⟨S_, .f32⟩
  | 117 => ⟨S180x128x128, .f32⟩
  | 118 => ⟨S180x128x128, .f32⟩
  | 119 => ⟨S180x128x128, .f32⟩
  | 120 => ⟨S180x128x128, .i32⟩
  | 121 => ⟨S_, .i32⟩
  | 122 => ⟨S180x128x128, .i32⟩
  | 123 => ⟨S180x128x128, .i32⟩
  | 124 => ⟨S_, .i32⟩
  | 125 => ⟨S_, .i32⟩
  | 126 => ⟨S_, .i32⟩
  | 127 => ⟨S180x128x128, .i32⟩
  | _ => ⟨S8x128x128x128, .f32⟩

abbrev hbmTy0_1 (i : Nat) : BufTy := match i % 128 with
  | 0 => ⟨S180x128x128, .i32⟩
  | 1 => ⟨S_, .i32⟩
  | 2 => ⟨S180x128x128, .i32⟩
  | 3 => ⟨S180x128x128, .i32⟩
  | 4 => ⟨S180x16384, .i32⟩
  | 5 => ⟨S8x32x16384, .f32⟩
  | 6 => ⟨S16384x8x32, .f32⟩
  | 7 => ⟨S_, .f32⟩
  | 8 => ⟨S180x184x8x32, .f32⟩
  | 9 => ⟨S180, .i32⟩
  | 10 => ⟨S180x1, .i32⟩
  | 11 => ⟨S1x16384x8x32, .f32⟩
  | 12 => ⟨S_, .i32⟩
  | 13 => ⟨S180x1, .i32⟩
  | 14 => ⟨S180x1, .i1⟩
  | 15 => ⟨S_, .i32⟩
  | 16 => ⟨S180x1, .i32⟩
  | 17 => ⟨S180x1, .i32⟩
  | 18 => ⟨S180x1, .i32⟩
  | 19 => ⟨S_, .i32⟩
  | 20 => ⟨S180x16384, .i32⟩
  | 21 => ⟨S180x16384, .i1⟩
  | 22 => ⟨S_, .i32⟩
  | 23 => ⟨S180x16384, .i32⟩
  | 24 => ⟨S180x16384, .i32⟩
  | 25 => ⟨S180x16384, .i32⟩
  | 26 => ⟨S180x16384, .i32⟩
  | 27 => ⟨S180x16384x1, .i32⟩
  | 28 => ⟨S180x16384x1, .i32⟩
  | 29 => ⟨S180x16384x2, .i32⟩
  | 30 => ⟨S180x16384x8x32, .f32⟩
  | 31 => ⟨S180x184x8x32, .f32⟩
  | 32 => ⟨S8x32x180x184, .f32⟩
  | 33 => ⟨S_, .f32⟩
  | 34 => ⟨S8x180x184, .f32⟩
  | 35 => ⟨S_, .f32⟩
  | 36 => ⟨S8x180x184, .f32⟩
  | 37 => ⟨S8x180x184, .f32⟩
  | 38 => ⟨S180, .i32⟩
  | 39 => ⟨S180x1, .i32⟩
  | 40 => ⟨S_, .i32⟩
  | 41 => ⟨S180x1, .i32⟩
  | 42 => ⟨S180x1, .i1⟩
  | 43 => ⟨S_, .i32⟩
  | 44 => ⟨S180x1, .i32⟩
  | 45 => ⟨S180x1, .i32⟩
  | 46 => ⟨S180x1, .i32⟩
  | 47 => ⟨S_, .i32⟩
  | 48 => ⟨S180x16384, .i32⟩
  | 49 => ⟨S180x16384, .i1⟩
  | 50 => ⟨S_, .i32⟩
  | 51 => ⟨S180x16384, .i32⟩
  | 52 => ⟨S180x16384, .i32⟩
  | 53 => ⟨S180x16384, .i32⟩
  | 54 => ⟨S180x16384, .i32⟩
  | 55 => ⟨S180x16384x1, .i32⟩
  | 56 => ⟨S180x16384x1, .i32⟩
  | 57 => ⟨S180x16384x2, .i32⟩
  | 58 => ⟨S8x180x16384, .f32⟩
  | 59 => ⟨S_, .f32⟩
  | 60 => ⟨S8x16384, .f32⟩
  | 61 => ⟨S8x16384, .f32⟩
  | 62 => ⟨S8x16384, .f32⟩
  | 63 => ⟨S_, .f32⟩
  | 64 => ⟨S8x16384, .f32⟩
  | 65 => ⟨S8x16384, .f32⟩
  | 66 => ⟨S_, .f32⟩
  | 67 => ⟨S8x16384, .f32⟩
  | 68 => ⟨S8x16384, .f32⟩
  | 69 => ⟨S8x1x128x128, .f32⟩
  | 70 => ⟨S8x32x128x128, .f32⟩
  | _ => ⟨S8x128x128x128, .f32⟩

abbrev hbmTy (i : Nat) : BufTy := match i / 128 with
  | 0 => hbmTy0_0 i
  | 1 => hbmTy0_1 i
  | _ => ⟨S8x128x128x128, .f32⟩

abbrev bufTy : (tb : Table) → Fin (tcTables nBuf tb) → BufTy
  | .hbm, ⟨i, _⟩ => hbmTy i
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_0 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_call1_cst : Ref sig .tc := ⟨.hbm, 80, rfl⟩
abbrev main_call1_v0 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_cst_1 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_2 : Ref sig .tc := ⟨.hbm, 97, rfl⟩
abbrev main_v82 : Ref sig .tc := ⟨.hbm, 98, rfl⟩
abbrev main_v83 : Ref sig .tc := ⟨.hbm, 99, rfl⟩
abbrev main_cst_3 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_cst_4 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_c_5 : Ref sig .tc := ⟨.hbm, 121, rfl⟩
abbrev main_v103 : Ref sig .tc := ⟨.hbm, 122, rfl⟩
abbrev main_v104 : Ref sig .tc := ⟨.hbm, 123, rfl⟩
abbrev main_c_6 : Ref sig .tc := ⟨.hbm, 124, rfl⟩
abbrev main_c_7 : Ref sig .tc := ⟨.hbm, 125, rfl⟩
abbrev main_call3_v0 : Ref sig .tc := ⟨.hbm, 126, rfl⟩
abbrev main_call3_v1 : Ref sig .tc := ⟨.hbm, 127, rfl⟩
abbrev main_call3_v2 : Ref sig .tc := ⟨.hbm, 128, rfl⟩
abbrev main_call3_v3 : Ref sig .tc := ⟨.hbm, 129, rfl⟩
abbrev main_call3_v4 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_cst_8 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_c_9 : Ref sig .tc := ⟨.hbm, 140, rfl⟩
abbrev main_v113 : Ref sig .tc := ⟨.hbm, 141, rfl⟩
abbrev main_v114 : Ref sig .tc := ⟨.hbm, 142, rfl⟩
abbrev main_c_10 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_c_11 : Ref sig .tc := ⟨.hbm, 147, rfl⟩
abbrev main_v118 : Ref sig .tc := ⟨.hbm, 148, rfl⟩
abbrev main_v119 : Ref sig .tc := ⟨.hbm, 149, rfl⟩
abbrev main_c_12 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_cst_13 : Ref sig .tc := ⟨.hbm, 161, rfl⟩
abbrev main_v130 : Ref sig .tc := ⟨.hbm, 162, rfl⟩
abbrev main_cst_14 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_c_15 : Ref sig .tc := ⟨.hbm, 168, rfl⟩
abbrev main_v135 : Ref sig .tc := ⟨.hbm, 169, rfl⟩
abbrev main_v136 : Ref sig .tc := ⟨.hbm, 170, rfl⟩
abbrev main_c_16 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_c_17 : Ref sig .tc := ⟨.hbm, 175, rfl⟩
abbrev main_v140 : Ref sig .tc := ⟨.hbm, 176, rfl⟩
abbrev main_v141 : Ref sig .tc := ⟨.hbm, 177, rfl⟩
abbrev main_c_18 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_cst_19 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_cst_20 : Ref sig .tc := ⟨.hbm, 191, rfl⟩
abbrev main_v153 : Ref sig .tc := ⟨.hbm, 192, rfl⟩
abbrev main_v154 : Ref sig .tc := ⟨.hbm, 193, rfl⟩
abbrev main_cst_21 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_v158 : Ref sig .tc := ⟨.hbm, 198, rfl⟩

abbrev nD : Nat := 1
abbrev τ : Topo := Topo.v7x

variable {F : FTy → Type} [FloatOps F]
-- ==== Proof.Vote.lean ====
/-
  One grid point of the second kernel: what its output buffer holds, as eight lane chunks.
-/
module

public import proofs.«01_k».proof.Proof.Gen.KernelIdeal.Frame
public import Idealize.ShloMosaic.Lib.Pointwise
public import Idealize.ShloMosaic.Lib.Pipeline.ReadBack
public import Idealize.ShloMosaic.Lib.Pipeline.ValueKit

@[expose] public section

set_option maxRecDepth 16384

noncomputable section

namespace Cert.HoughVote

open Cert.KernelIdeal Cert.KernelIdeal.Gen
open Idealize.ShloMosaic Idealize.ShloMosaic.TcCoe Idealize.SL.Sem Idealize.ShloMosaic.Tactic

section Structure

variable {F : FTy → Type} [FloatOps F]

theorem bins_slices (k : Fin 8) : S1x16384.Slices ![0, 2048 * k.val] S1x2048 := by revert k; decide

theorem means_slices (k : Fin 8) : S8x16384.Slices ![0, 2048 * k.val] S8x2048 := by revert k; decide

theorem acc_inb (k : Fin 8) :
    ∀ a, (![0, 0, 2048 * (7 - k.val)] : Fin 3 → Nat) a + S8x1x2048.size a ≤ S8x1x16384.size a := by
  revert k; decide

/-- Lane chunk `k` of the one-hot matrix of the bins. -/
def hotTile (x0 : Vec F S1x1x16384 .i32) (k : Fin 8) : FVec F S184x2048 .f32 :=
  select (cmpi .eq (iota .tc S184x2048 32 [0] iota_S184x2048_d0_w32)
      (broadcastTo S184x2048 (extractStridedSlice S1x2048 ![0, 2048 * k.val] (k1_pay4 x0) (bins_slices k))
        broadcasts_S1x2048_S184x2048))
    (broadcast S184x2048 (Scalar.ofBits .f32 0x3F800000#32)) (broadcast S184x2048 (Scalar.ofBits .f32 0x00000000#32))

/-- The votes of one lane chunk: the means times the one-hot matrix. -/
def part (x0 : Vec F S1x1x16384 .i32) (x1 : Vec F S8x1x16384 .f32) (k : Fin 8) : FVec F S8x184 .f32 :=
  matmul dot_S8x2048_S184x2048_S8x184_1_1_0_0_n_n none
    (extractStridedSlice S8x2048 ![0, 2048 * k.val] (k1_pay3 x1) (means_slices k)) (hotTile x0 k)
    (constant S8x184 .f32 0x00000000#32)

/-- The votes of a point: the eight chunks' added in order. -/
def votes (x0 : Vec F S1x1x16384 .i32) (x1 : Vec F S8x1x16384 .f32) : FVec F S8x184 .f32 :=
  addf (addf (addf (addf (addf (addf (addf (part x0 x1 0) (part x0 x1 1)) (part x0 x1 2)) (part x0 x1 3)) (part x0 x1 4))
    (part x0 x1 5)) (part x0 x1 6)) (part x0 x1 7)

/-- What lane chunk `k` stores: what it held, and the votes gathered back. -/
def voteStore (x0 : Vec F S1x1x16384 .i32) (x1 : Vec F S8x1x16384 .f32) (k : Fin 8) (v : Vec F S8x1x2048 .f32) :
    FVec F S8x1x2048 .f32 :=
  shapeCast S8x1x2048
    (addf (shapeCast S8x2048 v shapeCasts_S8x1x2048_S8x2048)
      (matmul dot_S8x184_S184x2048_S8x2048_1_0_0_1_n_n none (votes x0 x1)
        (shapeCast S184x2048 (hotTile x0 k) shapeCasts_S184x2048_S184x2048) (constant S8x2048 .f32 0x00000000#32)))
    shapeCasts_S8x2048_S8x1x2048

/-- The eight stores of a point over what the buffer held, the last one stored first in the list. -/
def pieces (x0 : Vec F S1x1x16384 .i32) (x1 : Vec F S8x1x16384 .f32) (xo : Vec F S8x1x16384 .f32) :
    List (View.Piece (Elt F) S8x1x16384 .f32) :=
  List.ofFn fun k : Fin 8 =>
    ⟨Rect.unit (s := S8x1x16384) ![0, 0, 2048 * (7 - k.val)] S8x1x2048.size (acc_inb k),
      voteStore x0 x1 ⟨7 - k.val, by omega⟩
        (View.ld xo (Rect.unit (s := S8x1x16384) ![0, 0, 2048 * (7 - k.val)] S8x1x2048.size (acc_inb k)))⟩

variable (c : Dev nD) (V : (c : Dev nD) → (b : Ref sig .tc) → Buf (Elt F) ((c : Thread nD τ).loc b)) (t : Fin cfg1.N)

/-- The first point zeroes the buffer and stores its eight chunks over that. -/
theorem outsA (h0 : t.val % 180 = 0) :
    outsAt1 V c t.val t.isLt
      = View.canon (pieces (iblk1 V c 0 t) (iblk1 V c 1 t) k1_pay2
          ++ [⟨Rect.unit (s := S8x1x16384) ![0, 0, 0] S8x1x16384.size inb_S8x1x16384_S8x1x16384_0_0_0, k1_pay2⟩]) := by
  rw [outsAt1_A V c t h0]
  frame_open
  simp (disch := decide) only [↓ View.readCov_skip, ↓ View.readCov_cons_toLoadRect, ↓ View.readCov_fill]
  frame_out
  generalize iblk1 V c 0 t = x0
  generalize iblk1 V c 1 t = x1
  rfl

/-- Every later point stores its eight chunks over what the point before left. -/
theorem outsB (h0 : ¬t.val % 180 = 0) :
    outsAt1 V c t.val t.isLt
      = View.canon (pieces (iblk1 V c 0 t) (iblk1 V c 1 t)
          (outsAt1 V c (t.val - 1) (Nat.lt_of_le_of_lt (Nat.sub_le _ _) t.isLt)) ++ []) := by
  rw [outsAt1_B V c t h0]
  frame_open
  simp (disch := decide) only [↓ View.readCov_skip, ↓ View.readCov_cons_toLoadRect, ↓ View.readCov_fill]
  frame_out
  generalize iblk1 V c 0 t = x0
  generalize iblk1 V c 1 t = x1
  generalize outsAt1 V c (t.val - 1) _ = xo
  rfl

end Structure

section Value

/-- The one-hot matrix at bin `r` and pixel `p`. -/
def hot (x0 : Vec Ideal S1x1x16384 .i32) (r : Fin 184) (p : Fin 16384) : EReal :=
  Scalar.select (IntOp.cmpi .eq (BitVec.ofNat 32 r.val) (x0 (ix3 0 0 p))) (1 : EReal) 0

/-- The votes at image `n` and bin `r`. -/
def votesAt (x0 : Vec Ideal S1x1x16384 .i32) (x1 : Vec Ideal S8x1x16384 .f32) (n : Fin 8) (r : Fin 184) : EReal :=
  ∑ p : Fin 16384, x1 (ix3 n 0 p) * hot x0 r p

theorem hotTile_at (x0 : Vec Ideal S1x1x16384 .i32) (k : Fin 8) (r : Fin 184) (l : Fin 2048) :
    hotTile x0 k (ix2 r l) = hot x0 r ⟨2048 * k.val + l.val, by omega⟩ := by
  pointwise [hotTile, k1_pay4, hot]

theorem part_at (x0 : Vec Ideal S1x1x16384 .i32) (x1 : Vec Ideal S8x1x16384 .f32) (k : Fin 8) (n : Fin 8) (r : Fin 184) :
    part x0 x1 k (ix2 n r) = ∑ l : Fin 2048, x1 (ix3 n 0 ⟨2048 * k.val + l.val, by omega⟩)
      * hot x0 r ⟨2048 * k.val + l.val, by omega⟩ := by
  pointwise [part, k1_pay3]
  refine Finset.sum_congr rfl fun l _ => ?_
  rw [hotTile_at]

theorem sum_chunks (f : Fin 16384 → EReal) :
    ∑ p, f p = ∑ k : Fin 8, ∑ l : Fin 2048, f ⟨2048 * k.val + l.val, by omega⟩ := by
  rw [← Fintype.sum_prod_type']
  refine (Fintype.sum_equiv (finProdFinEquiv (m := 8) (n := 2048)) _ _ fun x => congrArg f (Fin.ext ?_)).symm
  exact Nat.add_comm _ _

theorem votes_at (x0 : Vec Ideal S1x1x16384 .i32) (x1 : Vec Ideal S8x1x16384 .f32) (n : Fin 8) (r : Fin 184) :
    votes x0 x1 (ix2 n r) = votesAt x0 x1 n r := by
  pointwise [votes]
  unfold votesAt
  rw [sum_chunks, Fin.sum_univ_eight]
  simp only [part_at]

theorem voteStore_at (x0 : Vec Ideal S1x1x16384 .i32) (x1 : Vec Ideal S8x1x16384 .f32) (k : Fin 8)
    (v : Vec Ideal S8x1x2048 .f32) (n : Fin 8) (l : Fin 2048) :
    voteStore x0 x1 k v (ix3 n 0 l)
      = v (ix3 n 0 l) + ∑ r : Fin 184, votesAt x0 x1 n r * hot x0 r ⟨2048 * k.val + l.val, by omega⟩ := by
  pointwise [voteStore]
  refine congrArg (v (ix3 n 0 l) + ·) (Finset.sum_congr rfl fun r _ => ?_)
  rw [votes_at, hotTile_at]

/-- The votes gathered back at image `n` and pixel `p`. -/
def backAt (x0 : Vec Ideal S1x1x16384 .i32) (x1 : Vec Ideal S8x1x16384 .f32) (n : Fin 8) (p : Fin 16384) : EReal :=
  ∑ r : Fin 184, votesAt x0 x1 n r * hot x0 r p

/-- The eight stores, over whatever was stored before them, leave what the buffer held and the votes gathered back. -/
theorem canon_pieces_at (x0 : Vec Ideal S1x1x16384 .i32) (x1 xo : Vec Ideal S8x1x16384 .f32)
    (L : List (View.Piece (Elt Ideal) S8x1x16384 .f32)) (n : Fin 8) (p : Fin 16384) :
    View.canon (pieces x0 x1 xo ++ L) (ix3 n 0 p) = xo (ix3 n 0 p) + backAt x0 x1 n p := by
  refine (View.canon_append_of_pieces (S := S8x1x16384) (Val := Elt Ideal) (e := .f32)
    (fun y : S8x1x16384.Idx => xo (ix3 (y 0) 0 (y 2)) + backAt x0 x1 (y 0) (y 2)) L (pieces x0 x1 xo) ?_ (ix3 n 0 p) ?_).trans rfl
  · intro q hq z
    obtain ⟨k, rfl⟩ := List.mem_ofFn.mp hq
    obtain ⟨j, hj⟩ : ∃ j : Fin 8, j.val = 7 - k.val := ⟨⟨7 - k.val, by omega⟩, rfl⟩
    obtain ⟨n', hn⟩ : ∃ n' : Fin 8, n'.val = (z 0).val := ⟨⟨(z 0).val, (z 0).isLt⟩, rfl⟩
    obtain ⟨l, hl⟩ : ∃ l : Fin 2048, l.val = (z 2).val := ⟨⟨(z 2).val, (z 2).isLt⟩, rfl⟩
    have hz : z = ix3 n' 0 l := by
      funext a
      fin_cases a
      · exact Fin.ext hn.symm
      · exact Subsingleton.elim (α := Fin 1) _ _
      · exact Fin.ext hl.symm
    subst hz
    have hlt : 2048 * (7 - k.val) + l.val < 16384 := by omega
    have hemb : (Rect.unit (s := S8x1x16384) ![0, 0, 2048 * (7 - k.val)] S8x1x2048.size (acc_inb k)).emb (ix3 n' 0 l)
        = (ix3 n' 0 ⟨2048 * (7 - k.val) + l.val, hlt⟩ : S8x1x16384.Idx) := by
      funext a
      refine Fin.ext ((Rect.idx_unit_val _ _ _ _ a).trans ?_)
      fin_cases a
      · exact Nat.zero_add _
      · rfl
      · rfl
    refine Eq.trans ?_ (congrArg (fun y : S8x1x16384.Idx => xo (ix3 (y 0) 0 (y 2)) + backAt x0 x1 (y 0) (y 2)) hemb.symm)
    exact (voteStore_at x0 x1 _ _ n' l).trans (congrArg (· + backAt x0 x1 n' ⟨2048 * (7 - k.val) + l.val, hlt⟩) (congrArg xo hemb))
  · refine ⟨_, List.mem_ofFn.mpr ⟨⟨7 - p.val / 2048, by omega⟩, rfl⟩, (Rect.mem_set_unit (inb := acc_inb _)).mpr fun a => ?_⟩
    fin_cases a
    · exact ⟨Nat.zero_le _, by show n.val < 0 + 8; omega⟩
    · exact ⟨le_refl _, Nat.one_pos⟩
    · show 2048 * (7 - (7 - p.val / 2048)) ≤ p.val ∧ p.val < 2048 * (7 - (7 - p.val / 2048)) + 2048
      omega

end Value

end Cert.HoughVote

end
-- ==== Proof.Tile.lean ====
/-
  One row block of the convolution kernel.

  The kernel cuts the image into 32 blocks of four rows (512 lanes) and does the same work in each: nine products of
  the shifted input with the nine weight matrices, the scale, the bias, the rectifier, the 1x1 product and its bias.
  Here that work is written once, as a function of the loaded input slab, and the two output buffers of a grid point
  are shown to be 32 copies of it side by side.
-/
module

public import proofs.«01_k».proof.Proof.Gen.KernelIdeal.Frame
public import Idealize.ShloMosaic.Lib.Pipeline.ValueKit

@[expose] public section

set_option maxRecDepth 16384

noncomputable section

namespace Cert.HoughConv

open Cert.KernelIdeal Cert.KernelIdeal.Gen
open Idealize.ShloMosaic Idealize.ShloMosaic.TcCoe Idealize.SL.Sem

variable {F : FTy → Type} [FloatOps F]

/-- The slab a row block reads: six image rows of the padded input, 128 channels. -/
def slab (v : Vec F S1x128x768 .f32) : FVec F S128x768 .f32 := shapeCast S128x768 v shapeCasts_S1x128x768_S128x768

/-- The column of each lane of the slab. -/
def column : IVec S1x768 32 := k0_pay4

/-- The slab moved one lane right, with zero in the first column of each image row. -/
def slabLeft (v : Vec F S1x128x768 .f32) : FVec F S128x768 .f32 :=
  select (broadcastTo S128x768 (shapeCast S1x768 (cmpi .eq column (broadcast S1x768 0#32)) shapeCasts_S1x768_S1x768)
      broadcasts_S1x768_S128x768)
    (broadcast S128x768 (Scalar.ofBits .f32 0x00000000#32))
    (concatenate S128x768 1
      [⟨S128x1, broadcast S128x1 (Scalar.ofBits .f32 0x00000000#32)⟩,
       ⟨S128x767, extractStridedSlice S128x767 ![0, 0] (slab v) slices_S128x768_o0_0_S128x767⟩]
      concatenates_S128x1_S128x767_S128x768_d1)

/-- The slab moved one lane left, with zero in the last column of each image row. -/
def slabRight (v : Vec F S1x128x768 .f32) : FVec F S128x768 .f32 :=
  select (broadcastTo S128x768 (shapeCast S1x768 (cmpi .eq column (broadcast S1x768 127#32)) shapeCasts_S1x768_S1x768)
      broadcasts_S1x768_S128x768)
    (broadcast S128x768 (Scalar.ofBits .f32 0x00000000#32))
    (concatenate S128x768 1
      [⟨S128x767, extractStridedSlice S128x767 ![0, 1] (slab v) slices_S128x768_o0_1_S128x767⟩,
       ⟨S128x1, broadcast S128x1 (Scalar.ofBits .f32 0x00000000#32)⟩]
      concatenates_S128x767_S128x1_S128x768_d1)

/-- One tap of the convolution: a 128x128 weight matrix times 512 lanes of a slab. -/
def tap (w : Vec F S1x128x128 .f32) (xs : FVec F S128x512 .f32) : FVec F S128x512 .f32 :=
  matmul dot_S128x128_S128x512_S128x512_1_0_0_1_n_n none (shapeCast S128x128 w shapeCasts_S1x128x128_S128x128) xs
    (constant S128x512 .f32 0x00000000#32)

/-- The upper 512 lanes of a slab (the rows above). -/
def rowsUp (s : FVec F S128x768 .f32) : FVec F S128x512 .f32 :=
  extractStridedSlice S128x512 ![0, 0] s slices_S128x768_o0_0_S128x512

/-- The middle 512 lanes of a slab. -/
def rowsMid (s : FVec F S128x768 .f32) : FVec F S128x512 .f32 :=
  extractStridedSlice S128x512 ![0, 128] s slices_S128x768_o0_128_S128x512

/-- The lower 512 lanes of a slab (the rows below). -/
def rowsDown (s : FVec F S128x768 .f32) : FVec F S128x512 .f32 :=
  extractStridedSlice S128x512 ![0, 256] s slices_S128x768_o0_256_S128x512

/-- The 3x3 convolution of a row block: the nine taps added in order. -/
def convBlock (v : Vec F S1x128x768 .f32) (x1 : Vec F S9x128x128 .f32) : FVec F S128x512 .f32 :=
  addf (addf (addf (addf (addf (addf (addf (addf
    (tap (View.ld x1 r0_4) (rowsUp (slabLeft v)))
    (tap (View.ld x1 r0_5) (rowsUp (slab v))))
    (tap (View.ld x1 r0_6) (rowsUp (slabRight v))))
    (tap (View.ld x1 r0_7) (rowsMid (slabLeft v))))
    (tap (View.ld x1 r0_8) (rowsMid (slab v))))
    (tap (View.ld x1 r0_9) (rowsMid (slabRight v))))
    (tap (View.ld x1 r0_10) (rowsDown (slabLeft v))))
    (tap (View.ld x1 r0_11) (rowsDown (slab v))))
    (tap (View.ld x1 r0_12) (rowsDown (slabRight v)))

/-- The activation of a row block: scale, bias, rectifier. -/
def actBlock (v : Vec F S1x128x768 .f32) (x1 : Vec F S9x128x128 .f32) (x2 x3 : Vec F S128x512 .f32) :
    FVec F S128x512 .f32 :=
  maximumf (addf (mulf (convBlock v x1) (shapeCast S128x512 (View.ld x2 r0_0) shapeCasts_S128x512_S128x512))
      (shapeCast S128x512 (View.ld x3 r0_0) shapeCasts_S128x512_S128x512))
    (broadcast S128x512 (Scalar.ofBits .f32 0x00000000#32))

/-- The features of a row block: the 1x1 product and its bias. -/
def featBlock (v : Vec F S1x128x768 .f32) (x1 : Vec F S9x128x128 .f32) (x2 x3 : Vec F S128x512 .f32)
    (x4 : Vec F S32x128 .f32) (x5 : Vec F S32x512 .f32) : FVec F S32x512 .f32 :=
  addf (matmul dot_S32x128_S128x512_S32x512_1_0_0_1_n_n none
      (shapeCast S32x128 (View.ld x4 r0_2) shapeCasts_S32x128_S32x128) (actBlock v x1 x2 x3)
      (constant S32x512 .f32 0x00000000#32))
    (shapeCast S32x512 (View.ld x5 r0_1) shapeCasts_S32x512_S32x512)

/-- What a row block stores in the first output. -/
def featStore (v : Vec F S1x128x768 .f32) (x1 : Vec F S9x128x128 .f32) (x2 x3 : Vec F S128x512 .f32)
    (x4 : Vec F S32x128 .f32) (x5 : Vec F S32x512 .f32) : FVec F S1x32x512 .f32 :=
  shapeCast S1x32x512 (featBlock v x1 x2 x3 x4 x5) shapeCasts_S32x512_S1x32x512

/-- What a row block stores in the second output: the mean of the features over the 32 channels. -/
def meanStore (v : Vec F S1x128x768 .f32) (x1 : Vec F S9x128x128 .f32) (x2 x3 : Vec F S128x512 .f32)
    (x4 : Vec F S32x128 .f32) (x5 : Vec F S32x512 .f32) : FVec F S1x1x512 .f32 :=
  shapeCast S1x1x512
    (mulf (shapeCast S1x512
        (multiReduction .add [0] S512 (featBlock v x1 x2 x3 x4 x5) 0x00000000#32 reduces_S32x512_S512 (.inl rfl) rfl)
        shapeCasts_S512_S1x512)
      (broadcast S1x512 (Scalar.ofBits .f32 0x3D000000#32)))
    shapeCasts_S1x512_S1x1x512

theorem in_inb (k : Fin 32) :
    ∀ a, (![0, 0, 512 * (31 - k.val)] : Fin 3 → Nat) a + S1x128x768.size a ≤ S1x128x16640.size a := by
  revert k; decide

theorem feat_inb (k : Fin 32) :
    ∀ a, (![0, 0, 512 * (31 - k.val)] : Fin 3 → Nat) a + S1x32x512.size a ≤ S1x32x16384.size a := by
  revert k; decide

theorem mean_inb (k : Fin 32) :
    ∀ a, (![0, 0, 512 * (31 - k.val)] : Fin 3 → Nat) a + S1x1x512.size a ≤ S1x1x16384.size a := by
  revert k; decide

/-- The slab that row block `31 - k` loads. -/
def slabAt (x0 : Vec F S1x128x16640 .f32) (k : Fin 32) : Vec F S1x128x768 .f32 :=
  View.ld x0 (Rect.unit (s := S1x128x16640) ![0, 0, 512 * (31 - k.val)] S1x128x768.size (in_inb k))

/-- The first output's buffer after a grid point: the 32 row blocks, the last one stored first in the list. -/
theorem out0_6_pieces (x0 : Vec F S1x128x16640 .f32) (x1 : Vec F S9x128x128 .f32) (x2 x3 : Vec F S128x512 .f32)
    (x4 : Vec F S32x128 .f32) (x5 : Vec F S32x512 .f32) :
    out0_6 x0 x1 x2 x3 x4 x5 = View.canon (List.ofFn fun k : Fin 32 =>
      (⟨Rect.unit (s := S1x32x16384) ![0, 0, 512 * (31 - k.val)] S1x32x512.size (feat_inb k),
        featStore (slabAt x0 k) x1 x2 x3 x4 x5⟩ : View.Piece (Elt F) S1x32x16384 .f32)) := rfl

/-- The second output's buffer after a grid point, likewise. -/
theorem out0_7_pieces (x0 : Vec F S1x128x16640 .f32) (x1 : Vec F S9x128x128 .f32) (x2 x3 : Vec F S128x512 .f32)
    (x4 : Vec F S32x128 .f32) (x5 : Vec F S32x512 .f32) :
    out0_7 x0 x1 x2 x3 x4 x5 = View.canon (List.ofFn fun k : Fin 32 =>
      (⟨Rect.unit (s := S1x1x16384) ![0, 0, 512 * (31 - k.val)] S1x1x512.size (mean_inb k),
        meanStore (slabAt x0 k) x1 x2 x3 x4 x5⟩ : View.Piece (Elt F) S1x1x16384 .f32)) := rfl

end Cert.HoughConv

end
-- ==== Proof.Spec.lean ====
/-
  The problem's mathematics at an index, over the extended reals: the padded image, the 3x3 convolution, the
  normalisation and the rectifier, the 1x1 product, and the vote and readback of the Hough mask. Both programs are read
  in these terms.
-/
module

public import proofs.«01_k».proof.KernelIdeal
public import Idealize.ShloMosaic.Lib.Pipeline.ValueKit
public import Idealize.ShloMosaic.Lib.Pointwise

public import Idealize.ShloMosaic.Lib.Tactic.WordOmega

@[expose] public section

set_option maxRecDepth 16384

noncomputable section

namespace Cert.Hough

open Cert.KernelIdeal
open Idealize.ShloMosaic

/-- The image `n`, channel `k`, padded by one pixel of zeros on each side, at padded row `r` and column `c`. -/
def padAt (x : FVec Ideal S8x128x128x128 .f32) (n : Fin 8) (k : Fin 128) (r c : ℕ) : EReal :=
  if h : (1 ≤ r ∧ r < 129) ∧ 1 ≤ c ∧ c < 129 then x (ix4 n k ⟨r - 1, by omega⟩ ⟨c - 1, by omega⟩) else 0

/-- Nine terms, one per tap, added in the order of the taps. -/
def nine (T : Fin 3 → Fin 3 → EReal) : EReal :=
  T 0 0 + T 0 1 + T 0 2 + T 1 0 + T 1 1 + T 1 2 + T 2 0 + T 2 1 + T 2 2

/-- The 3x3 convolution at image `n`, channel `o`, row `h`, column `w`. -/
def convAt (x : FVec Ideal S8x128x128x128 .f32) (w1 : FVec Ideal S128x128x3x3 .f32) (n : Fin 8) (o : Fin 128)
    (h w : ℕ) : EReal :=
  nine fun di dj => ∑ k : Fin 128, w1 (ix4 o k di dj) * padAt x n k (h + di.val) (w + dj.val)

/-- The scale of channel `k`: gamma over the root of the shifted variance. -/
def scaleAt (gamma var : FVec Ideal S128 .f32) (k : Fin 128) : EReal :=
  Ideal.div (gamma (ix1 k)) (Ideal.sqrt (var (ix1 k) + Ideal.ofBits .f32 0x3727C5AC#32))

/-- The activation: convolution, scale, bias, rectifier. -/
def actAt (x : FVec Ideal S8x128x128x128 .f32) (w1 : FVec Ideal S128x128x3x3 .f32)
    (gamma beta mean var : FVec Ideal S128 .f32) (n : Fin 8) (k : Fin 128) (h w : ℕ) : EReal :=
  max (convAt x w1 n k h w * scaleAt gamma var k + (beta (ix1 k) - mean (ix1 k) * scaleAt gamma var k)) 0

/-- The features at image `n`, channel `o`, row `h`, column `w`. -/
def featAt (x : FVec Ideal S8x128x128x128 .f32) (w1 : FVec Ideal S128x128x3x3 .f32)
    (gamma beta mean var : FVec Ideal S128 .f32) (w2 : FVec Ideal S32x128x1x1 .f32) (b2 : FVec Ideal S32 .f32)
    (n : Fin 8) (o : Fin 32) (h w : ℕ) : EReal :=
  (∑ k : Fin 128, w2 (ix4 o k 0 0) * actAt x w1 gamma beta mean var n k h w) + b2 (ix1 o)

/-- The bin of a pixel before it is clipped, at angle `a` and flat pixel `q` (row `q / 128`, column `q % 128`). -/
def binAt (a q : ℕ) : BitVec 32 :=
  IntOp.addi
    (FloatOps.fptosi (F := Ideal) (φ := .f32) 32
      (Ideal.liftRound Ideal.roundHalfEven
        (Ideal.div
          ((FloatOps.sitofp (F := Ideal) FTy.f32 (BitVec.ofNat 32 (q % 128)) - Ideal.ofBits FTy.f32 0x427E0000#32) *
              Ideal.cos (FloatOps.sitofp (F := Ideal) FTy.f32 (BitVec.ofNat 32 a) * Ideal.ofBits FTy.f32 0x3C8EFA35#32) +
            (FloatOps.sitofp (F := Ideal) FTy.f32 (BitVec.ofNat 32 (q / 128)) - Ideal.ofBits FTy.f32 0x427E0000#32) *
              Ideal.sin (FloatOps.sitofp (F := Ideal) FTy.f32 (BitVec.ofNat 32 a) * Ideal.ofBits FTy.f32 0x3C8EFA35#32))
          (Ideal.ofBits FTy.f32 0x3F7BDA5D#32))))
    92#32

/-- The bin of a pixel, clipped to the 184 bins. -/
def rhoAt (a q : ℕ) : BitVec 32 := IntOp.minsi 183#32 (IntOp.maxsi 0#32 (binAt a q))

/-- A clipped bin is one of the 184 bins. -/
theorem rhoAt_lt (a q : ℕ) : (rhoAt a q).toNat < 184 := by
  unfold rhoAt
  generalize binAt a q = w
  have h : ∀ u v : BitVec 32, u.slt v = true ↔ u.toInt < v.toInt := fun u v => BitVec.slt_iff_toInt_lt
  unfold IntOp.minsi IntOp.maxsi
  simp only [h]
  have h0 : (0#32 : BitVec 32).toInt = 0 := by decide
  have h1 : (183#32 : BitVec 32).toInt = 183 := by decide
  rw [h0]
  split <;> rw [h1] <;> rename_i hw
  · rw [h0, if_neg (by omega)]; decide
  · split <;> rename_i hv
    · decide
    · have hc := BitVec.toInt_eq_toNat_cond w
      have hl := w.isLt
      split at hc <;> omega

/-- The bin of a pixel as an index. -/
def rho (a q : ℕ) : Fin 184 := ⟨(rhoAt a q).toNat, rhoAt_lt a q⟩

theorem rhoAt_eq (a q : ℕ) : rhoAt a q = BitVec.ofNat 32 (rho a q).val := by
  unfold rho
  exact BitVec.eq_of_toNat_eq (by rw [BitVec.toNat_ofNat]; exact (Nat.mod_eq_of_lt (rhoAt a q).isLt).symm)

end Cert.Hough

end
-- ==== Proof.Feat.lean ====
/-
  The row block of the convolution kernel read at an index: if the slab it loads is a piece of the padded image, the
  block holds the features of the problem.
-/
module

public import proofs.«01_k».proof.Proof.Tile
public import proofs.«01_k».proof.Proof.Spec

@[expose] public section

set_option maxRecDepth 16384

noncomputable section

namespace Cert.HoughConv

open Cert.KernelIdeal Cert.KernelIdeal.Gen Cert.Hough
open Idealize.ShloMosaic Idealize.ShloMosaic.TcCoe Idealize.SL.Sem

/-- The column of a lane is the lane modulo the row width. -/
theorem column_at : ∀ p : Fin 768, column (ix2 0 p) = BitVec.ofNat 32 (p.val % 128) := by
  intro p
  have h : ∀ p : Fin 768, (Scalar.select
          (IntOp.andi
            (IntOp.xori
              (IntOp.cmpi CmpIPredicate.slt
                (IntOp.remsi ArithUnit.vector (BitVec.ofNat 32 p.val)
                  (Scalar.select (Scalar.cmpi CmpIPredicate.eq 128#32 0#32) 1#32 128#32))
                0#32)
              (Scalar.cmpi CmpIPredicate.slt (Scalar.select (Scalar.cmpi CmpIPredicate.eq 128#32 0#32) 1#32 128#32)
                0#32))
            (IntOp.cmpi CmpIPredicate.ne
              (IntOp.remsi ArithUnit.vector (BitVec.ofNat 32 p.val)
                (Scalar.select (Scalar.cmpi CmpIPredicate.eq 128#32 0#32) 1#32 128#32))
              0#32))
          (IntOp.addi
            (IntOp.remsi ArithUnit.vector (BitVec.ofNat 32 p.val)
              (Scalar.select (Scalar.cmpi CmpIPredicate.eq 128#32 0#32) 1#32 128#32))
            (Scalar.select (Scalar.cmpi CmpIPredicate.eq 128#32 0#32) 1#32 128#32))
          (IntOp.remsi ArithUnit.vector (BitVec.ofNat 32 p.val)
            (Scalar.select (Scalar.cmpi CmpIPredicate.eq 128#32 0#32) 1#32 128#32))) = BitVec.ofNat 32 (p.val % 128) := by
    decide +kernel
  refine Eq.trans ?_ (h p)
  pointwise [column, k0_pay4]

/-- A lane's column compared with a literal, choosing between two values. -/
theorem column_select (c : ℕ) (hc : c < 128) (p : Fin 768) (a b : EReal) :
    Scalar.select (IntOp.cmpi CmpIPredicate.eq (column (ix2 0 p)) (BitVec.ofNat 32 c)) a b
      = if p.val % 128 = c then a else b := by
  rw [column_at]
  have hp : p.val % 128 < 128 := Nat.mod_lt _ (by decide)
  by_cases h : p.val % 128 = c
  · rw [if_pos h, h]; simp [IntOp.cmpi, Scalar.select]
  · rw [if_neg h]
    have hne : BitVec.ofNat 32 (p.val % 128) ≠ BitVec.ofNat 32 c := by
      intro e
      have := congrArg BitVec.toNat e
      simp only [BitVec.toNat_ofNat] at this
      omega
    have hb : (BitVec.ofNat 32 (p.val % 128) == BitVec.ofNat 32 c) = false := beq_eq_false_iff_ne.mpr hne
    simp [IntOp.cmpi, Scalar.select, hb]

section
variable (v : Vec Ideal S1x128x768 .f32) (x : FVec Ideal S8x128x128x128 .f32) (n : Fin 8) (rb : ℕ)

/-- The slab of row block `rb` of image `n`: lane `p` is the padded image at row `(512 rb + p) / 128`. -/
def IsSlab : Prop := ∀ (k : Fin 128) (p : Fin 768),
  v (ix3 0 k p) = padAt x n k ((512 * rb + p.val) / 128) (p.val % 128 + 1)

variable {v x n rb} (hv : IsSlab v x n rb)
include hv

theorem slab_at (k : Fin 128) (p : Fin 768) :
    slab v (ix2 k p) = padAt x n k ((512 * rb + p.val) / 128) (p.val % 128 + 1) := by
  pointwise [slab]
  exact hv k p

theorem slabLeft_at (k : Fin 128) (p : Fin 768) :
    slabLeft v (ix2 k p) = padAt x n k ((512 * rb + p.val) / 128) (p.val % 128 + 0) := by
  pointwise [slabLeft, slab]
  refine (column_select 0 (by omega) p _ _).trans ?_
  by_cases h : p.val % 128 = 0
  · rw [if_pos h, padAt, dif_neg (by omega)]
  · rw [if_neg h]
    have hp : ¬ p.val < 1 := by omega
    refine (dif_neg hp).trans ((hv k ⟨p.val - 1, by omega⟩).trans ?_)
    show padAt x n k ((512 * rb + (p.val - 1)) / 128) ((p.val - 1) % 128 + 1) = _
    have h1 : (512 * rb + (p.val - 1)) / 128 = (512 * rb + p.val) / 128 := by omega
    have h2 : (p.val - 1) % 128 + 1 = p.val % 128 + 0 := by omega
    rw [h1, h2]
    rfl

theorem slabRight_at (k : Fin 128) (p : Fin 768) :
    slabRight v (ix2 k p) = padAt x n k ((512 * rb + p.val) / 128) (p.val % 128 + 2) := by
  pointwise [slabRight, slab]
  refine (column_select 127 (by omega) p _ _).trans ?_
  by_cases h : p.val % 128 = 127
  · rw [if_pos h, padAt, dif_neg (by omega)]
  · rw [if_neg h]
    have hp : p.val < 767 := by omega
    refine (dif_pos hp).trans ((hv k ⟨1 + p.val, by omega⟩).trans ?_)
    show padAt x n k ((512 * rb + (1 + p.val)) / 128) ((1 + p.val) % 128 + 1) = _
    have h1 : (512 * rb + (1 + p.val)) / 128 = (512 * rb + p.val) / 128 := by omega
    have h2 : (1 + p.val) % 128 + 1 = p.val % 128 + 2 := by omega
    rw [h1, h2]

end

theorem rowsUp_at (s : FVec Ideal S128x768 .f32) (k : Fin 128) (l : Fin 512) :
    rowsUp s (ix2 k l) = s (ix2 k ⟨128 * 0 + l.val, by omega⟩) := by
  pointwise [rowsUp]

theorem rowsMid_at (s : FVec Ideal S128x768 .f32) (k : Fin 128) (l : Fin 512) :
    rowsMid s (ix2 k l) = s (ix2 k ⟨128 * 1 + l.val, by omega⟩) := by
  pointwise [rowsMid]

theorem rowsDown_at (s : FVec Ideal S128x768 .f32) (k : Fin 128) (l : Fin 512) :
    rowsDown s (ix2 k l) = s (ix2 k ⟨128 * 2 + l.val, by omega⟩) := by
  pointwise [rowsDown]

theorem tap_at (w : Vec Ideal S1x128x128 .f32) (xs : FVec Ideal S128x512 .f32) (o : Fin 128) (l : Fin 512) :
    tap w xs (ix2 o l) = ∑ k : Fin 128, w (ix3 0 o k) * xs (ix2 k l) := by
  pointwise [tap]

section
variable {v : Vec Ideal S1x128x768 .f32} {x : FVec Ideal S8x128x128x128 .f32} {n : Fin 8} {rb : ℕ}

/-- The weights as the kernel's operand holds them: tap `3 di + dj` first. -/
def IsWeights (x1 : Vec Ideal S9x128x128 .f32) (w1 : FVec Ideal S128x128x3x3 .f32) : Prop :=
  ∀ (di dj : Fin 3) (o k : Fin 128), x1 (ix3 ⟨3 * di.val + dj.val, by omega⟩ o k) = w1 (ix4 o k di dj)

/-- One tap of a row block is one tap of the problem's convolution. -/
theorem tap_conv {w1 : FVec Ideal S128x128x3x3 .f32} (di dj : Fin 3) (w : Vec Ideal S1x128x128 .f32)
    (xs : FVec Ideal S128x512 .f32) (o : Fin 128) (l : Fin 512)
    (hw : ∀ k, w (ix3 0 o k) = w1 (ix4 o k di dj))
    (hx : ∀ k, xs (ix2 k l) = padAt x n k ((512 * rb + l.val) / 128 + di.val) (l.val % 128 + dj.val)) :
    tap w xs (ix2 o l) = ∑ k : Fin 128, w1 (ix4 o k di dj)
      * padAt x n k ((512 * rb + l.val) / 128 + di.val) (l.val % 128 + dj.val) := by
  rw [tap_at]
  exact Finset.sum_congr rfl fun k _ => by rw [hw, hx]

/-- A lane `128 d + l` of the slab lies `d` rows below lane `l`, in the same column. -/
theorem lane_pad (k : Fin 128) (d l e : ℕ) :
    padAt x n k ((512 * rb + (128 * d + l)) / 128) ((128 * d + l) % 128 + e)
      = padAt x n k ((512 * rb + l) / 128 + d) (l % 128 + e) := by
  have h1 : (512 * rb + (128 * d + l)) / 128 = (512 * rb + l) / 128 + d := by omega
  have h2 : (128 * d + l) % 128 = l % 128 := by omega
  rw [h1, h2]

theorem convBlock_at (hv : IsSlab v x n rb) {x1 : Vec Ideal S9x128x128 .f32} {w1 : FVec Ideal S128x128x3x3 .f32}
    (hw : IsWeights x1 w1) (o : Fin 128) (l : Fin 512) :
    convBlock v x1 (ix2 o l) = convAt x w1 n o ((512 * rb + l.val) / 128) (l.val % 128) := by
  have hload : ∀ (di dj : Fin 3) (inb) (k : Fin 128),
      View.ld x1 (Rect.unit (s := S9x128x128) ![3 * di.val + dj.val, 0, 0] S1x128x128.size inb) (ix3 0 o k)
        = w1 (ix4 o k di dj) := by
    intro di dj inb k
    refine (View.ld_unit_apply_of x1 _ _ inb _ (ix3 ⟨3 * di.val + dj.val, by omega⟩ o k) ?_).trans (hw di dj o k)
    intro a
    fin_cases a
    · exact (Nat.add_zero _).symm
    · exact (Nat.zero_add _).symm
    · exact (Nat.zero_add _).symm
  unfold convBlock convAt nine
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  · exact tap_conv 0 0 _ _ o l (hload 0 0 _) fun k => (rowsUp_at _ k l).trans ((slabLeft_at hv k _).trans (lane_pad k 0 l.val 0))
  · exact tap_conv 0 1 _ _ o l (hload 0 1 _) fun k => (rowsUp_at _ k l).trans ((slab_at hv k _).trans (lane_pad k 0 l.val 1))
  · exact tap_conv 0 2 _ _ o l (hload 0 2 _) fun k => (rowsUp_at _ k l).trans ((slabRight_at hv k _).trans (lane_pad k 0 l.val 2))
  · exact tap_conv 1 0 _ _ o l (hload 1 0 _) fun k => (rowsMid_at _ k l).trans ((slabLeft_at hv k _).trans (lane_pad k 1 l.val 0))
  · exact tap_conv 1 1 _ _ o l (hload 1 1 _) fun k => (rowsMid_at _ k l).trans ((slab_at hv k _).trans (lane_pad k 1 l.val 1))
  · exact tap_conv 1 2 _ _ o l (hload 1 2 _) fun k => (rowsMid_at _ k l).trans ((slabRight_at hv k _).trans (lane_pad k 1 l.val 2))
  · exact tap_conv 2 0 _ _ o l (hload 2 0 _) fun k => (rowsDown_at _ k l).trans ((slabLeft_at hv k _).trans (lane_pad k 2 l.val 0))
  · exact tap_conv 2 1 _ _ o l (hload 2 1 _) fun k => (rowsDown_at _ k l).trans ((slab_at hv k _).trans (lane_pad k 2 l.val 1))
  · exact tap_conv 2 2 _ _ o l (hload 2 2 _) fun k => (rowsDown_at _ k l).trans ((slabRight_at hv k _).trans (lane_pad k 2 l.val 2))

variable {x1 : Vec Ideal S9x128x128 .f32} {x2 x3 : Vec Ideal S128x512 .f32} {x4 : Vec Ideal S32x128 .f32}
  {x5 : Vec Ideal S32x512 .f32} {w1 : FVec Ideal S128x128x3x3 .f32} {gamma beta mean var : FVec Ideal S128 .f32}
  {w2 : FVec Ideal S32x128x1x1 .f32} {b2 : FVec Ideal S32 .f32}

theorem actBlock_at (hv : IsSlab v x n rb) (hw : IsWeights x1 w1)
    (h2 : ∀ (k : Fin 128) (l : Fin 512), x2 (ix2 k l) = scaleAt gamma var k)
    (h3 : ∀ (k : Fin 128) (l : Fin 512), x3 (ix2 k l) = beta (ix1 k) - mean (ix1 k) * scaleAt gamma var k)
    (k : Fin 128) (l : Fin 512) :
    actBlock v x1 x2 x3 (ix2 k l) = actAt x w1 gamma beta mean var n k ((512 * rb + l.val) / 128) (l.val % 128) := by
  pointwise [actBlock]
  rw [convBlock_at hv hw, h2, h3]
  rfl

theorem featBlock_at (hv : IsSlab v x n rb) (hw : IsWeights x1 w1)
    (h2 : ∀ (k : Fin 128) (l : Fin 512), x2 (ix2 k l) = scaleAt gamma var k)
    (h3 : ∀ (k : Fin 128) (l : Fin 512), x3 (ix2 k l) = beta (ix1 k) - mean (ix1 k) * scaleAt gamma var k)
    (h4 : ∀ (o : Fin 32) (k : Fin 128), x4 (ix2 o k) = w2 (ix4 o k 0 0))
    (h5 : ∀ (o : Fin 32) (l : Fin 512), x5 (ix2 o l) = b2 (ix1 o)) (o : Fin 32) (l : Fin 512) :
    featBlock v x1 x2 x3 x4 x5 (ix2 o l)
      = featAt x w1 gamma beta mean var w2 b2 n o ((512 * rb + l.val) / 128) (l.val % 128) := by
  pointwise [featBlock]
  rw [h5]
  refine congrArg (· + b2 (ix1 o)) (Finset.sum_congr rfl fun k _ => ?_)
  rw [h4, actBlock_at hv hw h2 h3]

end

end Cert.HoughConv

end
-- ==== Proof.Host.lean ====
/-
  The arrays the host hands to the first kernel, read at an index.
-/
module

public import proofs.«01_k».proof.Proof.Gen.KernelIdeal.Frame
public import proofs.«01_k».proof.Proof.Feat
public import Idealize.ShloMosaic.Lib.StableHlo.ReadAt
public import Idealize.ShloMosaic.Lib.Pointwise
public import Idealize.ShloMosaic.Lib.Tactic.WordOmega

@[expose] public section

set_option maxRecDepth 16384

noncomputable section

namespace Cert.HoughHost

open Cert.KernelIdeal Cert.KernelIdeal.Gen Cert.Hough
open Idealize.ShloMosaic Idealize.ShloMosaic.TcCoe Idealize.ShloMosaic.Tactic

variable (m : (ℓ : Loc nD τ sig) → Buf (Elt Ideal) ℓ) (ρ : Dev nD → PrngReg) (c : Dev nD)

/-- The arguments as the launch holds them. -/
abbrev argX : FVec Ideal S8x128x128x128 .f32 := m ((c.tc : Thread nD τ).loc main_arg0)
abbrev argW1 : FVec Ideal S128x128x3x3 .f32 := m ((c.tc : Thread nD τ).loc main_arg1)
abbrev argGamma : FVec Ideal S128 .f32 := m ((c.tc : Thread nD τ).loc main_arg2)
abbrev argBeta : FVec Ideal S128 .f32 := m ((c.tc : Thread nD τ).loc main_arg3)
abbrev argMean : FVec Ideal S128 .f32 := m ((c.tc : Thread nD τ).loc main_arg4)
abbrev argVar : FVec Ideal S128 .f32 := m ((c.tc : Thread nD τ).loc main_arg5)
abbrev argW2 : FVec Ideal S32x128x1x1 .f32 := m ((c.tc : Thread nD τ).loc main_arg6)
abbrev argB2 : FVec Ideal S32 .f32 := m ((c.tc : Thread nD τ).loc main_arg7)

theorem v9_at (k : Fin 128) (l : Fin 512) :
    (V7 m ρ c main_v9 : FVec Ideal S128x512 .f32) (ix2 k l) = scaleAt (argGamma m c) (argVar m c) k := by
  show StableHlo.after hostOps0_6 _ _ _ = _
  after_reads_at
  rfl

theorem v13_at (k : Fin 128) (l : Fin 512) :
    (V7 m ρ c main_v13 : FVec Ideal S128x512 .f32) (ix2 k l)
      = argBeta m c (ix1 k) - argMean m c (ix1 k) * scaleAt (argGamma m c) (argVar m c) k := by
  show StableHlo.after hostOps0_6 _ _ _ = _
  after_reads_at
  rfl

theorem v14_at (o : Fin 32) (k : Fin 128) :
    (V7 m ρ c main_v14 : FVec Ideal S32x128 .f32) (ix2 o k) = argW2 m c (ix4 o k 0 0) := by
  show StableHlo.after hostOps0_6 _ _ _ = _
  after_reads_at

theorem v16_at (o : Fin 32) (l : Fin 512) :
    (V7 m ρ c main_v16 : FVec Ideal S32x512 .f32) (ix2 o l) = argB2 m c (ix1 o) := by
  show StableHlo.after hostOps0_6 _ _ _ = _
  after_reads_at

theorem v3_at : Cert.HoughConv.IsWeights (V7 m ρ c main_v3 : FVec Ideal S9x128x128 .f32) (argW1 m c) := by
  intro di dj o k
  show StableHlo.after hostOps0_6 _ _ _ = _
  after_reads_at

theorem v1_at (n : Fin 8) (k : Fin 128) (q : Fin 16640) :
    (V7 m ρ c main_v1 : FVec Ideal S8x128x16640 .f32) (ix3 n k q)
      = padAt (argX m c) n k (q.val / 128) (q.val % 128 + 1) := by
  show StableHlo.after hostOps0_6 _ _ _ = _
  after_reads_at
  have hz : (FloatOps.sitofp (F := Ideal) FTy.f32 0#32 : EReal) = 0 := by
    show (((0#32 : BitVec 32).toInt : ℝ) : EReal) = 0
    simp
  unfold padAt
  split <;> rename_i h
  · refine Eq.trans ?_ (dif_pos (by omega)).symm
    rfl
  · refine hz.trans ?_
    refine Eq.symm (dif_neg ?_)
    omega

/-- The bins the host hands to the second kernel. -/
theorem v48_at (a : Fin 180) (q : Fin 16384) :
    (V7 m ρ c main_v48 : IVec S180x1x16384 32) (ix3 a 0 q) = rhoAt a.val q.val := by
  show StableHlo.after hostOps0_6 _ _ _ = _
  after_reads_at
  rfl

end Cert.HoughHost

end
-- ==== Proof.Point0.lean ====
/-
  One grid point of the first kernel: what its two output buffers hold.
-/
module

public import proofs.«01_k».proof.Proof.Tile
public import proofs.«01_k».proof.Proof.Host

@[expose] public section

set_option maxRecDepth 16384

noncomputable section

namespace Cert.HoughConv

open Cert.KernelIdeal Cert.KernelIdeal.Gen Cert.Hough Cert.HoughHost
open Idealize.ShloMosaic Idealize.ShloMosaic.TcCoe Idealize.SL.Sem Idealize.ShloMosaic.Tactic

section Block

variable {x0 : Vec Ideal S1x128x16640 .f32} {x1 : Vec Ideal S9x128x128 .f32} {x2 x3 : Vec Ideal S128x512 .f32}
  {x4 : Vec Ideal S32x128 .f32} {x5 : Vec Ideal S32x512 .f32}
  {x : FVec Ideal S8x128x128x128 .f32} {w1 : FVec Ideal S128x128x3x3 .f32} {gamma beta mean var : FVec Ideal S128 .f32}
  {w2 : FVec Ideal S32x128x1x1 .f32} {b2 : FVec Ideal S32 .f32} {n : Fin 8}
  (h0 : ∀ (k : Fin 128) (q : Fin 16640), x0 (ix3 0 k q) = padAt x n k (q.val / 128) (q.val % 128 + 1))
  (h1 : IsWeights x1 w1)
  (h2 : ∀ (k : Fin 128) (l : Fin 512), x2 (ix2 k l) = scaleAt gamma var k)
  (h3 : ∀ (k : Fin 128) (l : Fin 512), x3 (ix2 k l) = beta (ix1 k) - mean (ix1 k) * scaleAt gamma var k)
  (h4 : ∀ (o : Fin 32) (k : Fin 128), x4 (ix2 o k) = w2 (ix4 o k 0 0))
  (h5 : ∀ (o : Fin 32) (l : Fin 512), x5 (ix2 o l) = b2 (ix1 o))

include h0 in
/-- A loaded slab holds the padded image from its first row on. -/
theorem slabAt_isSlab (k : Fin 32) : IsSlab (slabAt x0 k) x n (31 - k.val) := by
  intro ch p
  have hlt : 512 * (31 - k.val) + p.val < 16640 := by omega
  refine (View.ld_unit_apply_of x0 _ _ _ (ix3 0 ch p) (ix3 0 ch ⟨512 * (31 - k.val) + p.val, hlt⟩) ?_).trans ?_
  · intro a
    fin_cases a
    · rfl
    · show ch.val = 0 + ch.val; omega
    · rfl
  · rw [h0]
    congr 2
    show (512 * (31 - k.val) + p.val) % 128 = p.val % 128
    omega

include h0 h1 h2 h3 h4 h5

/-- The first output's buffer after a point holds the features of the point's image. -/
theorem out0_6_at (o : Fin 32) (q : Fin 16384) :
    out0_6 x0 x1 x2 x3 x4 x5 (ix3 0 o q)
      = featAt x w1 gamma beta mean var w2 b2 n o (q.val / 128) (q.val % 128) := by
  rw [out0_6_pieces]
  refine View.canon_ofFn_unit_eq_of_forall (S := S1x32x16384) (Val := Elt Ideal) (e := .f32) (fun k : Fin 32 => ![0, 0, 512 * (31 - k.val)]) S1x32x512.size feat_inb
    (fun k => featStore (slabAt x0 k) x1 x2 x3 x4 x5) (ix3 0 o q) _ ?_ fun k => ?_
  · refine ⟨⟨31 - q.val / 512, by omega⟩, fun a => ?_⟩
    fin_cases a
    · exact ⟨le_refl _, Nat.one_pos⟩
    · exact ⟨Nat.zero_le _, by show o.val < 0 + 32; omega⟩
    · show 512 * (31 - (31 - q.val / 512)) ≤ q.val ∧ q.val < 512 * (31 - (31 - q.val / 512)) + 512
      omega
  · intro z hz
    have e1 : o.val = 0 + (z 1).val := hz 1
    have e2 : q.val = 512 * (31 - k.val) + (z 2).val := hz 2
    obtain ⟨l, hl⟩ : ∃ l : Fin 512, l.val = (z 2).val := ⟨⟨(z 2).val, (z 2).isLt⟩, rfl⟩
    have hz' : z = ix3 0 o l := by
      funext a
      fin_cases a
      · exact Subsingleton.elim (α := Fin 1) _ _
      · exact Fin.ext (by show (z 1).val = o.val; omega)
      · exact Fin.ext hl.symm
    rw [hz']
    pointwise [featStore]
    rw [featBlock_at (slabAt_isSlab h0 k) h1 h2 h3 h4 h5]
    congr 1
    · rw [e2, hl]
    · omega

/-- The second output's buffer after a point holds the channel mean of the features of the point's image. -/
theorem out0_7_at (q : Fin 16384) :
    out0_7 x0 x1 x2 x3 x4 x5 (ix3 0 0 q)
      = (∑ o : Fin 32, featAt x w1 gamma beta mean var w2 b2 n o (q.val / 128) (q.val % 128))
        * Ideal.ofBits .f32 0x3D000000#32 := by
  rw [out0_7_pieces]
  refine View.canon_ofFn_unit_eq_of_forall (S := S1x1x16384) (Val := Elt Ideal) (e := .f32) (fun k : Fin 32 => ![0, 0, 512 * (31 - k.val)]) S1x1x512.size mean_inb
    (fun k => meanStore (slabAt x0 k) x1 x2 x3 x4 x5) (ix3 0 0 q) _ ?_ fun k => ?_
  · refine ⟨⟨31 - q.val / 512, by omega⟩, fun a => ?_⟩
    fin_cases a
    · exact ⟨le_refl _, Nat.one_pos⟩
    · exact ⟨le_refl _, Nat.one_pos⟩
    · show 512 * (31 - (31 - q.val / 512)) ≤ q.val ∧ q.val < 512 * (31 - (31 - q.val / 512)) + 512
      omega
  · intro z hz
    have e2 : q.val = 512 * (31 - k.val) + (z 2).val := hz 2
    obtain ⟨l, hl⟩ : ∃ l : Fin 512, l.val = (z 2).val := ⟨⟨(z 2).val, (z 2).isLt⟩, rfl⟩
    have hz' : z = ix3 0 0 l := by
      funext a
      fin_cases a
      · exact Subsingleton.elim (α := Fin 1) _ _
      · exact Subsingleton.elim (α := Fin 1) _ _
      · exact Fin.ext hl.symm
    rw [hz']
    pointwise [meanStore]
    refine congrArg (· * Ideal.ofBits .f32 0x3D000000#32) (Finset.sum_congr rfl fun o _ => ?_)
    rw [featBlock_at (slabAt_isSlab h0 k) h1 h2 h3 h4 h5]
    congr 1
    · rw [e2, hl]
    · omega

end Block

end Cert.HoughConv

end
-- ==== Proof.Region0.lean ====
/-
  The first kernel's two output arrays: the features, and their mean over the channels.
-/
module

public import proofs.«01_k».proof.Proof.Point0
public import proofs.«01_k».proof.Proof.Host

@[expose] public section

set_option maxRecDepth 16384

noncomputable section

namespace Cert.HoughConv

open Cert.KernelIdeal Cert.KernelIdeal.Gen Cert.Hough Cert.HoughHost
open Idealize.ShloMosaic Idealize.ShloMosaic.TcCoe Idealize.SL.Sem Idealize.ShloMosaic.Tactic

section Array

variable (m : (ℓ : Loc nD τ sig) → Buf (Elt Ideal) ℓ) (ρ : Dev nD → PrngReg) (c : Dev nD)

/-- Where each window of the first kernel sits at a grid point. -/
theorem idx0 : ∀ t : Fin cfg0.N, win0_0.index t = ![t.val, 0, 0] ∧ win0_1.index t = ![0, 0, 0]
    ∧ win0_2.index t = ![0, 0] ∧ win0_3.index t = ![0, 0] ∧ win0_4.index t = ![0, 0] ∧ win0_5.index t = ![0, 0]
    ∧ win0_6.index t = ![t.val, 0, 0] ∧ win0_7.index t = ![t.val, 0, 0] :=
  (by decide +kernel : ∀ t : Fin grid0.N, _)

theorem lt0 (t : Fin cfg0.N) : t.val < 8 := Nat.lt_of_lt_of_eq t.isLt N_0

/-! ### The input blocks, over any contents at the kernel's entry -/

section Entry

variable (V : (c : Dev nD) → (b : Ref sig .tc) → Buf (Elt Ideal) ((c : Thread nD τ).loc b))

theorem blk0_0 (t : Fin cfg0.N) (k : Fin 128) (q : Fin 16640) :
    iblk0 V c 0 t (ix3 0 k q) = (V c main_v1 : FVec Ideal S8x128x16640 .f32) (ix3 ⟨t.val, lt0 t⟩ k q) := by
  blk_ext [iblk0, idx0 t]

theorem blk0_1 (t : Fin cfg0.N) (i : Fin 9) (o k : Fin 128) :
    iblk0 V c 1 t (ix3 i o k) = (V c main_v3 : FVec Ideal S9x128x128 .f32) (ix3 i o k) := by
  blk_ext [iblk0, idx0 t]

theorem blk0_2 (t : Fin cfg0.N) (k : Fin 128) (l : Fin 512) :
    iblk0 V c 2 t (ix2 k l) = (V c main_v9 : FVec Ideal S128x512 .f32) (ix2 k l) := by
  blk_ext [iblk0, idx0 t]

theorem blk0_3 (t : Fin cfg0.N) (k : Fin 128) (l : Fin 512) :
    iblk0 V c 3 t (ix2 k l) = (V c main_v13 : FVec Ideal S128x512 .f32) (ix2 k l) := by
  blk_ext [iblk0, idx0 t]

theorem blk0_4 (t : Fin cfg0.N) (o : Fin 32) (k : Fin 128) :
    iblk0 V c 4 t (ix2 o k) = (V c main_v14 : FVec Ideal S32x128 .f32) (ix2 o k) := by
  blk_ext [iblk0, idx0 t]

theorem blk0_5 (t : Fin cfg0.N) (o : Fin 32) (l : Fin 512) :
    iblk0 V c 5 t (ix2 o l) = (V c main_v16 : FVec Ideal S32x512 .f32) (ix2 o l) := by
  blk_ext [iblk0, idx0 t]

/-! ### The output arrays, over any entry contents whose inputs are the problem's -/

variable {x : FVec Ideal S8x128x128x128 .f32} {w1 : FVec Ideal S128x128x3x3 .f32} {gamma beta mean var : FVec Ideal S128 .f32}
  {w2 : FVec Ideal S32x128x1x1 .f32} {b2 : FVec Ideal S32 .f32}
  (h0 : ∀ (n : Fin 8) (k : Fin 128) (q : Fin 16640), (V c main_v1 : FVec Ideal S8x128x16640 .f32) (ix3 n k q)
    = padAt x n k (q.val / 128) (q.val % 128 + 1))
  (h1 : IsWeights (V c main_v3 : FVec Ideal S9x128x128 .f32) w1)
  (h2 : ∀ (k : Fin 128) (l : Fin 512), (V c main_v9 : FVec Ideal S128x512 .f32) (ix2 k l) = scaleAt gamma var k)
  (h3 : ∀ (k : Fin 128) (l : Fin 512), (V c main_v13 : FVec Ideal S128x512 .f32) (ix2 k l)
    = beta (ix1 k) - mean (ix1 k) * scaleAt gamma var k)
  (h4 : ∀ (o : Fin 32) (k : Fin 128), (V c main_v14 : FVec Ideal S32x128 .f32) (ix2 o k) = w2 (ix4 o k 0 0))
  (h5 : ∀ (o : Fin 32) (l : Fin 512), (V c main_v16 : FVec Ideal S32x512 .f32) (ix2 o l) = b2 (ix1 o))

include h0 h1 h2 h3 h4 h5

theorem final6_of : (dat0 V c).arrAt 6 cfg0.N = (fun i => featAt x w1 gamma beta mean var w2 b2 (i 0) (i 1)
    ((i 2).val / 128) ((i 2).val % 128) : FVec Ideal S8x32x16384 .f32) := by
  refine (dat0 V c).arrAt_eq_of_covers 6 _ (by decide +kernel) fun t hf y => ?_
  blk_simp
  rw [after0_6]
  have hy : y = ix3 0 ⟨(y 1).val, (y 1).isLt⟩ ⟨(y 2).val, (y 2).isLt⟩ := by
    funext a
    fin_cases a
    · exact Subsingleton.elim (α := Fin 1) _ _
    · rfl
    · rfl
  refine (congrArg _ hy).trans ?_
  refine (out0_6_at (n := ⟨t.val, lt0 t⟩) (fun k q => (blk0_0 c V t k q).trans (h0 _ k q))
    (fun di dj o k => (blk0_1 c V t _ o k).trans (h1 di dj o k)) (fun k l => (blk0_2 c V t k l).trans (h2 k l))
    (fun k l => (blk0_3 c V t k l).trans (h3 k l)) (fun o k => (blk0_4 c V t o k).trans (h4 o k))
    (fun o l => (blk0_5 c V t o l).trans (h5 o l)) _ _).trans ?_
  have e := (idx0 t).2.2.2.2.2.2.1
  refine congr (congr (congr (congrArg _ (Fin.ext ?_)) (Fin.ext ?_)) (congrArg (· / 128) ?_)) (congrArg (· % 128) ?_)
    <;> blk_simp [e]

theorem final7_of : (dat0 V c).arrAt 7 cfg0.N = (fun i => (∑ o : Fin 32, featAt x w1 gamma beta mean var w2 b2 (i 0) o
    ((i 2).val / 128) ((i 2).val % 128)) * Ideal.ofBits .f32 0x3D000000#32 : FVec Ideal S8x1x16384 .f32) := by
  refine (dat0 V c).arrAt_eq_of_covers 7 _ (by decide +kernel) fun t hf y => ?_
  blk_simp
  rw [after0_7]
  have hy : y = ix3 0 0 ⟨(y 2).val, (y 2).isLt⟩ := by
    funext a
    fin_cases a
    · exact Subsingleton.elim (α := Fin 1) _ _
    · exact Subsingleton.elim (α := Fin 1) _ _
    · rfl
  refine (congrArg _ hy).trans ?_
  refine (out0_7_at (n := ⟨t.val, lt0 t⟩) (fun k q => (blk0_0 c V t k q).trans (h0 _ k q))
    (fun di dj o k => (blk0_1 c V t _ o k).trans (h1 di dj o k)) (fun k l => (blk0_2 c V t k l).trans (h2 k l))
    (fun k l => (blk0_3 c V t k l).trans (h3 k l)) (fun o k => (blk0_4 c V t o k).trans (h4 o k))
    (fun o l => (blk0_5 c V t o l).trans (h5 o l)) _).trans ?_
  have e := (idx0 t).2.2.2.2.2.2.2
  refine congrArg (· * Ideal.ofBits .f32 0x3D000000#32) (Finset.sum_congr rfl fun o _ => ?_)
  refine congr (congr (congrFun (congrArg _ (Fin.ext ?_)) _) (congrArg (· / 128) ?_)) (congrArg (· % 128) ?_)
    <;> blk_simp [e]

end Entry

/-- The features of the launched arguments, at a flat pixel. -/
abbrev feat (n : Fin 8) (o : Fin 32) (q : ℕ) : EReal :=
  featAt (argX m c) (argW1 m c) (argGamma m c) (argBeta m c) (argMean m c) (argVar m c) (argW2 m c) (argB2 m c)
    n o (q / 128) (q % 128)

/-- The channel mean of the features of the launched arguments, at a flat pixel. -/
def meanFeat (n : Fin 8) (q : ℕ) : EReal := (∑ o : Fin 32, feat m c n o q) * Ideal.ofBits .f32 0x3D000000#32

/-- The features array after the first kernel. -/
theorem W8_feat (n : Fin 8) (o : Fin 32) (q : Fin 16384) :
    (W8 m ρ c (Proc.devRef .tc main_v49_0) : FVec Ideal S8x32x16384 .f32) (ix3 n o q) = feat m c n o q.val := by
  refine (congrFun ((W8_arr m ρ c 6).trans (final6_of c (V7 m ρ) (v1_at m ρ c) (v3_at m ρ c) (v9_at m ρ c)
    (v13_at m ρ c) (v14_at m ρ c) (v16_at m ρ c))) (ix3 n o q)).trans ?_
  rfl

/-- The means array after the first kernel. -/
theorem W8_mean (n : Fin 8) (q : Fin 16384) :
    (W8 m ρ c (Proc.devRef .tc main_v49_1) : FVec Ideal S8x1x16384 .f32) (ix3 n 0 q) = meanFeat m c n q.val := by
  refine (congrFun ((W8_arr m ρ c 7).trans (final7_of c (V7 m ρ) (v1_at m ρ c) (v3_at m ρ c) (v9_at m ρ c)
    (v13_at m ρ c) (v14_at m ρ c) (v16_at m ρ c))) (ix3 n 0 q)).trans ?_
  rfl

end Array

end Cert.HoughConv

end
-- ==== Proof.Region1.lean ====
/-
  The second kernel's output array: over the angles, the sum of what each gathers back.
-/
module

public import proofs.«01_k».proof.Proof.Vote
public import proofs.«01_k».proof.Proof.Region0

@[expose] public section

set_option maxRecDepth 16384

noncomputable section

namespace Cert.HoughVote

open Cert.KernelIdeal Cert.KernelIdeal.Gen Cert.Hough Cert.HoughHost Cert.HoughConv
open Idealize.ShloMosaic Idealize.ShloMosaic.TcCoe Idealize.SL.Sem Idealize.ShloMosaic.Tactic

/-- What angle `a` gives pixel `p` from the values `f`: their sum over the pixels voting for the same bin. -/
def gain (f : ℕ → EReal) (a p : ℕ) : EReal := ∑ q : Fin 16384, if rho a q.val = rho a p then f q.val else 0

theorem hot_eq (x0 : Vec Ideal S1x1x16384 .i32) (a : ℕ) (h : ∀ q : Fin 16384, x0 (ix3 0 0 q) = rhoAt a q.val)
    (r : Fin 184) (p : Fin 16384) : hot x0 r p = if r = rho a p.val then 1 else 0 := by
  unfold hot
  rw [h, rhoAt_eq]
  by_cases e : r = rho a p.val
  · subst e
    rw [if_pos rfl]
    simp [IntOp.cmpi, Scalar.select]
  · rw [if_neg e]
    have hne : BitVec.ofNat 32 r.val ≠ BitVec.ofNat 32 (rho a p.val).val := fun h' => e (Fin.ext (by
      have := congrArg BitVec.toNat h'
      rwa [BitVec.toNat_ofNat, BitVec.toNat_ofNat, Nat.mod_eq_of_lt (by omega), Nat.mod_eq_of_lt (by omega)] at this))
    simp only [IntOp.cmpi, Scalar.select, beq_eq_false_iff_ne.mpr hne]
    exact if_neg (by decide)

theorem backAt_eq (x0 : Vec Ideal S1x1x16384 .i32) (x1 : Vec Ideal S8x1x16384 .f32) (a : ℕ)
    (h : ∀ q : Fin 16384, x0 (ix3 0 0 q) = rhoAt a q.val) (n : Fin 8) (f : ℕ → EReal)
    (h1 : ∀ q : Fin 16384, x1 (ix3 n 0 q) = f q.val) (p : Fin 16384) : backAt x0 x1 n p = gain f a p.val := by
  unfold backAt gain
  simp only [hot_eq x0 a h, mul_ite, mul_one, mul_zero, Finset.sum_ite_eq', Finset.mem_univ, if_true, votesAt]
  refine Finset.sum_congr rfl fun q _ => ?_
  rw [h1]
  by_cases e : rho a q.val = rho a p.val
  · rw [if_pos e, if_pos e.symm]
  · rw [if_neg e, if_neg (Ne.symm e)]

section Entry

variable (c : Dev nD) (V : (c : Dev nD) → (b : Ref sig .tc) → Buf (Elt Ideal) ((c : Thread nD τ).loc b))

/-- Where each window of the second kernel sits at a grid point. -/
theorem idx1 : ∀ t : Fin cfg1.N, win1_0.index t = ![t.val, 0, 0] ∧ win1_1.index t = ![0, 0, 0]
    ∧ win1_2.index t = ![0, 0, 0] :=
  (by decide +kernel : ∀ t : Fin grid1.N, _)

theorem lt1 (t : Fin cfg1.N) : t.val < 180 := Nat.lt_of_lt_of_eq t.isLt N_1

theorem blk1_0 (t : Fin cfg1.N) (q : Fin 16384) :
    iblk1 V c 0 t (ix3 0 0 q) = (V c main_v48 : IVec S180x1x16384 32) (ix3 ⟨t.val, lt1 t⟩ 0 q) := by
  blk_ext [iblk1, idx1 t]

theorem blk1_1 (t : Fin cfg1.N) (n : Fin 8) (q : Fin 16384) :
    iblk1 V c 1 t (ix3 n 0 q) = (V c main_v49_1 : FVec Ideal S8x1x16384 .f32) (ix3 n 0 q) := by
  blk_ext [iblk1, idx1 t]

theorem zeros_at (n : Fin 8) (q : Fin 16384) : (k1_pay2 : FVec Ideal S8x1x16384 .f32) (ix3 n 0 q) = 0 := by
  pointwise [k1_pay2]

variable {g : Fin 8 → ℕ → EReal}
  (h0 : ∀ (a : Fin 180) (q : Fin 16384), (V c main_v48 : IVec S180x1x16384 32) (ix3 a 0 q) = rhoAt a.val q.val)
  (h1 : ∀ (n : Fin 8) (q : Fin 16384), (V c main_v49_1 : FVec Ideal S8x1x16384 .f32) (ix3 n 0 q) = g n q.val)

include h0 h1

theorem point_at (t : Fin cfg1.N) (n : Fin 8) (p : Fin 16384) :
    backAt (iblk1 V c 0 t) (iblk1 V c 1 t) n p = gain (g n) t.val p.val :=
  backAt_eq _ _ t.val (fun q => (blk1_0 c V t q).trans (h0 _ q)) n (g n) (fun q => (blk1_1 c V t n q).trans (h1 n q)) p

/-- The buffer after point `t`: the gains of the angles up to it. -/
theorem outs_at (t : ℕ) (ht : t < cfg1.N) (n : Fin 8) (p : Fin 16384) :
    outsAt1 V c t ht (ix3 n 0 p) = ∑ a ∈ Finset.range (t + 1), gain (g n) a p.val := by
  induction t with
  | zero =>
    refine (congrFun (outsA c V ⟨0, ht⟩ rfl) _).trans ?_
    refine (canon_pieces_at _ _ _ _ n p).trans ?_
    rw [zeros_at, zero_add, point_at c V h0 h1]
    simp only [zero_add, Finset.sum_range_one]
  | succ t ih =>
    have hb : t + 1 < 180 := lt1 ⟨t + 1, ht⟩
    refine (congrFun (outsB c V ⟨t + 1, ht⟩ (by show ¬(t + 1) % 180 = 0; omega)) _).trans ?_
    refine (canon_pieces_at _ _ _ _ n p).trans ?_
    rw [point_at c V h0 h1, Finset.sum_range_succ]
    exact congrArg (· + _) (ih _)

theorem final_of : (dat1 V c).arrAt 2 cfg1.N
    = (fun i => ∑ a ∈ Finset.range 180, gain (g (i 0)) a (i 2).val : FVec Ideal S8x1x16384 .f32) := by
  refine (dat1 V c).arrAt_eq_of_covers 2 _ (by decide +kernel) fun t hf y => ?_
  have ht : t.val + 1 = 180 :=
    (by decide +kernel : ∀ t : Fin grid1.N, win1_2.flush t = true → t.val + 1 = 180) t hf
  blk_simp
  rw [after1_2]
  have hy : y = ix3 ⟨(y 0).val, (y 0).isLt⟩ 0 ⟨(y 2).val, (y 2).isLt⟩ := by
    funext a
    fin_cases a
    · rfl
    · exact Subsingleton.elim (α := Fin 1) _ _
    · rfl
  refine (congrArg _ hy).trans ?_
  refine (outs_at c V h0 h1 _ _ _ _).trans ?_
  rw [ht]
  have e := (idx1 t).2.2
  refine Finset.sum_congr rfl fun a _ => ?_
  refine congr (congrFun (congrArg _ (congrArg g (Fin.ext ?_))) _) ?_
    <;> blk_simp [e]

end Entry

section Run

variable (m : (ℓ : Loc nD τ sig) → Buf (Elt Ideal) ℓ) (ρ : Dev nD → PrngReg) (c : Dev nD)

/-- The gathered votes after the second kernel. -/
theorem W9_at (n : Fin 8) (p : Fin 16384) :
    (W9 m ρ c (Proc.devRef .tc main_v50) : FVec Ideal S8x1x16384 .f32) (ix3 n 0 p)
      = ∑ a ∈ Finset.range 180, gain (meanFeat m c n) a p.val := by
  refine (congrFun ((W9_arr m ρ c 2).trans (final_of c (V8 m ρ) (fun a q => ?_) (W8_mean m ρ c))) (ix3 n 0 p)).trans ?_
  · exact (congrFun (W8_of_ne m ρ c main_v48 (by decide)) (ix3 a 0 q)).trans (v48_at m ρ c a q)
  · rfl

end Run

end Cert.HoughVote

end
-- ==== Proof.Region2.lean ====
/-
  The third kernel's output array and the kernel program's two results, at an index.
-/
module

public import proofs.«01_k».proof.Proof.Region1

@[expose] public section

set_option maxRecDepth 16384

noncomputable section

namespace Cert.HoughMask

open Cert.KernelIdeal Cert.KernelIdeal.Gen Cert.Hough Cert.HoughHost Cert.HoughConv Cert.HoughVote
open Idealize.ShloMosaic Idealize.ShloMosaic.TcCoe Idealize.SL.Sem Idealize.ShloMosaic.Tactic

/-- The sigmoid. -/
def sigm (s : EReal) : EReal := Ideal.logistic s

theorem out2_1_at (x0 : Vec Ideal S1x1x16384 .f32) (o : Fin 32) (q : Fin 16384) :
    out2_1 x0 (ix3 0 o q) = sigm (x0 (ix3 0 0 q)) := by
  rw [out2_1]
  frame_out
  pointwise [k2_pay1]
  rfl

section Entry

variable (c : Dev nD) (V : (c : Dev nD) → (b : Ref sig .tc) → Buf (Elt Ideal) ((c : Thread nD τ).loc b))

/-- Where each window of the third kernel sits at a grid point. -/
theorem idx2 : ∀ t : Fin cfg2.N, win2_0.index t = ![t.val, 0, 0] ∧ win2_1.index t = ![t.val, 0, 0] :=
  (by decide +kernel : ∀ t : Fin grid2.N, _)

theorem lt2 (t : Fin cfg2.N) : t.val < 8 := Nat.lt_of_lt_of_eq t.isLt N_2

theorem blk2_0 (t : Fin cfg2.N) (q : Fin 16384) :
    iblk2 V c 0 t (ix3 0 0 q) = (V c main_v50 : FVec Ideal S8x1x16384 .f32) (ix3 ⟨t.val, lt2 t⟩ 0 q) := by
  blk_ext [iblk2, idx2 t]

theorem final_of : (dat2 V c).arrAt 1 cfg2.N
    = (fun i => sigm ((V c main_v50 : FVec Ideal S8x1x16384 .f32) (ix3 (i 0) 0 (i 2))) : FVec Ideal S8x32x16384 .f32) := by
  refine (dat2 V c).arrAt_eq_of_covers 1 _ (by decide +kernel) fun t hf y => ?_
  blk_simp
  rw [after2_1]
  have hy : y = ix3 0 ⟨(y 1).val, (y 1).isLt⟩ ⟨(y 2).val, (y 2).isLt⟩ := by
    funext a
    fin_cases a
    · exact Subsingleton.elim (α := Fin 1) _ _
    · rfl
    · rfl
  refine (congrArg _ hy).trans ?_
  refine (out2_1_at _ _ _).trans (congrArg sigm ((blk2_0 c V t _).trans ?_))
  have e := (idx2 t).2
  refine congrArg₂ (fun (a : Fin 8) (b : Fin 16384) => (V c main_v50 : FVec Ideal S8x1x16384 .f32) (ix3 a 0 b))
    (Fin.ext ?_) (Fin.ext ?_) <;> blk_simp [e]

end Entry

section Run

variable (m : (ℓ : Loc nD τ sig) → Buf (Elt Ideal) ℓ) (ρ : Dev nD → PrngReg) (c : Dev nD)

theorem W10_at (n : Fin 8) (o : Fin 32) (p : Fin 16384) :
    (W10 m ρ c (Proc.devRef .tc main_v51) : FVec Ideal S8x32x16384 .f32) (ix3 n o p)
      = sigm (∑ a ∈ Finset.range 180, gain (meanFeat m c n) a p.val) :=
  (congrFun ((W10_arr m ρ c 1).trans (final_of c (V9 m ρ))) (ix3 n o p)).trans (congrArg sigm (W9_at m ρ c n p))

theorem W10_feat (n : Fin 8) (o : Fin 32) (p : Fin 16384) :
    (W10 m ρ c (Proc.devRef .tc main_v49_0) : FVec Ideal S8x32x16384 .f32) (ix3 n o p) = feat m c n o p.val :=
  (congrFun (W10_of_ne m ρ c main_v49_0 (by decide)) _).trans
    ((congrFun (W9_of_ne m ρ c main_v49_0 (by decide)) _).trans (W8_feat m ρ c n o p))

/-- The kernel's mask, at an index. -/
theorem mask_at (n : Fin 8) (o : Fin 32) (h w : Fin 128) :
    (W11 m ρ c (Proc.devRef .tc main_v52) : FVec Ideal S8x32x128x128 .f32) (ix4 n o h w)
      = sigm (∑ a ∈ Finset.range 180, gain (meanFeat m c n) a (128 * h.val + w.val)) := by
  show StableHlo.after hostOps3 _ _ _ = _
  after_reads_at
  refine (W10_at m ρ c n o _).trans (congrArg sigm (Finset.sum_congr rfl fun a _ => congrArg (gain (meanFeat m c n) a) ?_))
  exact congrArg (· + w.val) (Nat.mul_comm h.val 128)

/-- The kernel's features, at an index. -/
theorem out_at (n : Fin 8) (o : Fin 32) (h w : Fin 128) :
    (W11 m ρ c (Proc.devRef .tc main_v53) : FVec Ideal S8x32x128x128 .f32) (ix4 n o h w)
      = feat m c n o (128 * h.val + w.val) := by
  show StableHlo.after hostOps3 _ _ _ = _
  after_reads_at
  refine (W10_feat m ρ c n o _).trans (congrArg (feat m c n o) ?_)
  exact congrArg (· + w.val) (Nat.mul_comm h.val 128)

end Run

end Cert.HoughMask

end
-- ==== Proof.RefFeat.lean ====
/-
  The reference's features, at an index.
-/
module

public import proofs.«01_k».proof.Proof.Gen.ReferenceIdeal.Read
public import proofs.«01_k».proof.Proof.Spec

@[expose] public section

set_option maxRecDepth 16384

noncomputable section

namespace Cert.HoughRef

open Cert.ReferenceIdeal Cert.ReferenceIdeal.Gen Cert.ReferenceIdeal.Read
open Idealize.ShloMosaic Idealize.SL.Sem

variable (x : FVec Ideal S8x128x128x128 .f32) (w1 : FVec Ideal S128x128x3x3 .f32)
  (gamma beta mean var : FVec Ideal S128 .f32) (w2 : FVec Ideal S32x128x1x1 .f32) (b2 : FVec Ideal S32 .f32)

/-- The padded image. -/
theorem v0_at (n : Fin 8) (k : Fin 128) (r c : Fin 130) :
    val_main_v0 (F := Ideal) x (ix4 n k r c) = Cert.Hough.padAt x n k r.val c.val := by
  pointwise [val_main_v0, val_main_call0_v0, val_main_c]
  unfold Cert.Hough.padAt
  by_cases h : (1 ≤ r.val ∧ r.val < 129) ∧ 1 ≤ c.val ∧ c.val < 129
  · refine (dif_pos (by omega)).trans (Eq.trans ?_ (dif_pos h).symm)
    rfl
  · refine (dif_neg (by omega)).trans (Eq.trans ?_ (dif_neg h).symm)
    simp [FloatOps.sitofp]

/-- One tap of the convolution. -/
theorem tap (n : Fin 8) (o : Fin 128) (di dj : Fin 3) (h w r c : ℕ) (hr : r < 130) (hc : c < 130)
    (er : r = h + di.val) (ec : c = w + dj.val) :
    ∑ k : Fin 128, val_main_v0 (F := Ideal) x (ix4 n k ⟨r, hr⟩ ⟨c, hc⟩) * w1 (ix4 o k di dj)
      = ∑ k : Fin 128, w1 (ix4 o k di dj) * Cert.Hough.padAt x n k (h + di.val) (w + dj.val) := by
  subst er
  subst ec
  refine Finset.sum_congr rfl fun k _ => ?_
  rw [v0_at]
  exact mul_comm _ _

/-- The convolution. -/
theorem v55_at (n : Fin 8) (o : Fin 128) (h w : Fin 128) :
    val_main_v55 (F := Ideal) x w1 (ix4 n o h w) = Cert.Hough.convAt x w1 n o h.val w.val := by
  pointwise [
    val_main_cst, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_v20, val_main_v21, val_main_v22, val_main_v23,
    val_main_v24, val_main_v25, val_main_v26, val_main_v27, val_main_v28, val_main_v29, val_main_v30, val_main_v31,
    val_main_v32, val_main_v33, val_main_v34, val_main_v35, val_main_v36, val_main_v37, val_main_v38, val_main_v39,
    val_main_v40, val_main_v41, val_main_v42, val_main_v43, val_main_v44, val_main_v45, val_main_v46, val_main_v47,
    val_main_v48, val_main_v49, val_main_v50, val_main_v51, val_main_v52, val_main_v53, val_main_v54, val_main_v55]
  unfold Cert.Hough.convAt Cert.Hough.nine
  refine congrArg₂ (· + ·) (congrArg₂ (· + ·) (congrArg₂ (· + ·) (congrArg₂ (· + ·) (congrArg₂ (· + ·)
    (congrArg₂ (· + ·) (congrArg₂ (· + ·) (congrArg₂ (· + ·) ?_ ?_) ?_) ?_) ?_) ?_) ?_) ?_) ?_
  · exact tap x w1 n o 0 0 h.val w.val _ _ _ _ rfl rfl
  · exact tap x w1 n o 0 1 h.val w.val _ _ _ _ rfl (Nat.add_comm _ _)
  · exact tap x w1 n o 0 2 h.val w.val _ _ _ _ rfl (Nat.add_comm _ _)
  · exact tap x w1 n o 1 0 h.val w.val _ _ _ _ (Nat.add_comm _ _) rfl
  · exact tap x w1 n o 1 1 h.val w.val _ _ _ _ (Nat.add_comm _ _) (Nat.add_comm _ _)
  · exact tap x w1 n o 1 2 h.val w.val _ _ _ _ (Nat.add_comm _ _) (Nat.add_comm _ _)
  · exact tap x w1 n o 2 0 h.val w.val _ _ _ _ (Nat.add_comm _ _) rfl
  · exact tap x w1 n o 2 1 h.val w.val _ _ _ _ (Nat.add_comm _ _) (Nat.add_comm _ _)
  · exact tap x w1 n o 2 2 h.val w.val _ _ _ _ (Nat.add_comm _ _) (Nat.add_comm _ _)

/-- The scale of a channel. -/
theorem v59_at (k : Fin 128) :
    val_main_v59 (F := Ideal) gamma var (ix1 k) = Cert.Hough.scaleAt gamma var k := by
  pointwise [val_main_v59, val_main_v58, val_main_v57, val_main_v56, val_main_cst_0]
  rfl

/-- The features. -/
theorem v74_at (n : Fin 8) (o : Fin 32) (h w : Fin 128) :
    val_main_v74 (F := Ideal) x w1 gamma beta mean var w2 b2 (ix4 n o h w)
      = Cert.Hough.featAt x w1 gamma beta mean var w2 b2 n o h.val w.val := by
  pointwise [
    val_main_v60, val_main_v61, val_main_v62, val_main_v63, val_main_v64, val_main_v65, val_main_v66, val_main_v67,
    val_main_call1_cst, val_main_call1_v0, val_main_v68, val_main_v69, val_main_v70, val_main_v71, val_main_v72,
    val_main_v73, val_main_v74]
  simp only [v55_at, v59_at]
  refine congrArg (· + b2 (ix1 o)) (Finset.sum_congr rfl fun k _ => ?_)
  exact mul_comm _ _

end Cert.HoughRef

end
-- ==== Proof.RefScatter.lean ====
/-
  The reference's scatter and gather read at an index: which updates land on a bin, and which bin a pixel reads.
-/
module

public import proofs.«01_k».proof.Proof.Gen.ReferenceIdeal.Run
public import Idealize.ShloMosaic.Lib.Routing.OpsPair
public import Idealize.ShloMosaic.Lib.Pointwise

@[expose] public section

set_option maxRecDepth 16384

noncomputable section

namespace Cert.HoughRef

open Cert.ReferenceIdeal Cert.ReferenceIdeal.Gen
open Idealize.ShloMosaic Idealize.SL.Sem

/-- The scatter's dimension numbers. -/
abbrev dS := scatter_S180x184x8x32_S180x16384x2_S180x16384x8x32_23_01_01_2
/-- The gather's dimension numbers. -/
abbrev dG := gather_S8x180x184_S180x16384x2_S8x180x16384_0_12_n_n_12_2_811

theorem toInt_word {N : ℕ} (hN : N ≤ 2 ^ 31) (a : Fin N) : (BitVec.ofNat 32 a.val).toInt = a.val := by
  have := a.isLt
  rw [BitVec.toInt_eq_toNat_of_lt (by rw [BitVec.toNat_ofNat]; omega), BitVec.toNat_ofNat, Nat.mod_eq_of_lt (by omega)]

/-! ### The scatter -/

variable (idx : IVec S180x16384x2 32)

theorem start0 (a : Fin 180) (p : Fin 16384) (n : Fin 8) (o : Fin 32) :
    ScatterDims.start dS (ix4 a p n o) idx 0 = (idx (ix3 a p 0)).toInt := by
  unfold ScatterDims.start
  rw [dif_pos (by decide)]
  refine congrArg (fun i => (idx i).toInt) (funext fun b => ?_)
  fin_cases b <;> rfl

theorem start1 (a : Fin 180) (p : Fin 16384) (n : Fin 8) (o : Fin 32) :
    ScatterDims.start dS (ix4 a p n o) idx 1 = (idx (ix3 a p 1)).toInt := by
  unfold ScatterDims.start
  rw [dif_pos (by decide)]
  refine congrArg (fun i => (idx i).toInt) (funext fun b => ?_)
  fin_cases b <;> rfl

theorem lands (a a' : Fin 180) (p : Fin 16384) (n n' : Fin 8) (o o' : Fin 32) (r : Fin 184) :
    ScatterDims.resultIdx? dS (ix4 a p n o) idx = some (ix4 a' r n' o')
      ↔ (idx (ix3 a p 0)).toInt = a'.val ∧ (idx (ix3 a p 1)).toInt = r.val ∧ n = n' ∧ o = o' := by
  rw [Routing.resultIdx?_eq_some]
  have w0 : ScatterDims.window dS (ix4 a p n o) 0 = 0 := rfl
  have w1 : ScatterDims.window dS (ix4 a p n o) 1 = 0 := rfl
  have w2 : ScatterDims.window dS (ix4 a p n o) 2 = n.val := rfl
  have w3 : ScatterDims.window dS (ix4 a p n o) 3 = o.val := rfl
  have s2 : ScatterDims.start dS (ix4 a p n o) idx 2 = 0 := rfl
  have s3 : ScatterDims.start dS (ix4 a p n o) idx 3 = 0 := rfl
  constructor
  · intro h
    have h0 := h 0
    have h1 := h 1
    have h2 := h 2
    have h3 := h 3
    rw [start0, w0] at h0
    rw [start1, w1] at h1
    rw [s2, w2] at h2
    rw [s3, w3] at h3
    refine ⟨by simpa using h0, by simpa using h1, Fin.ext ?_, Fin.ext ?_⟩
    · exact Int.ofNat.inj ((zero_add _).symm.trans h2)
    · exact Int.ofNat.inj ((zero_add _).symm.trans h3)
  · rintro ⟨h0, h1, rfl, rfl⟩ b
    match b with
    | ⟨0, _⟩ => exact (congrArg₂ (· + ·) ((start0 idx a p n o).trans h0) (congrArg Int.ofNat w0)).trans (add_zero _)
    | ⟨1, _⟩ => exact (congrArg₂ (· + ·) ((start1 idx a p n o).trans h1) (congrArg Int.ofNat w1)).trans (add_zero _)
    | ⟨2, _⟩ => exact (congrArg₂ (· + ·) s2 (congrArg Int.ofNat w2)).trans (zero_add _)
    | ⟨3, _⟩ => exact (congrArg₂ (· + ·) s3 (congrArg Int.ofNat w3)).trans (zero_add _)

variable (bin : Fin 180 → Fin 16384 → Fin 184)
  (h0 : ∀ (a : Fin 180) (p : Fin 16384), idx (ix3 a p 0) = BitVec.ofNat 32 a.val)
  (h1 : ∀ (a : Fin 180) (p : Fin 16384), idx (ix3 a p 1) = BitVec.ofNat 32 (bin a p).val)

include h0 h1

/-- A bin receives the updates of the pixels of its angle that vote for it. -/
theorem scatter_at (x : FVec Ideal S180x184x8x32 .f32) (upd : FVec Ideal S180x16384x8x32 .f32)
    (a : Fin 180) (r : Fin 184) (n : Fin 8) (o : Fin 32) :
    Host.scatterAdd (F := Ideal) dS x idx upd (ix4 a r n o)
      = x (ix4 a r n o) + ∑ p : Fin 16384, if bin a p = r then upd (ix4 a p n o) else 0 := by
  show x (ix4 a r n o) + ∑ j ∈ Finset.univ.filter (fun j => ScatterDims.resultIdx? dS j idx = some (ix4 a r n o)), upd j = _
  have hj : ∀ j : S180x16384x8x32.Idx, j = ix4 (j 0) (j 1) (j 2) (j 3) := fun j => by
    funext b
    fin_cases b <;> rfl
  have key4 : ∀ (a' : Fin 180) (p : Fin 16384) (n' : Fin 8) (o' : Fin 32),
      ScatterDims.resultIdx? dS (ix4 a' p n' o') idx = some (ix4 a r n o)
        ↔ a' = a ∧ bin a' p = r ∧ n' = n ∧ o' = o := fun a' p n' o' => by
    refine (lands idx a' a p n' n o' o r).trans ?_
    rw [h0, h1, toInt_word (by decide) a', toInt_word (by decide) (bin a' p)]
    refine and_congr ?_ (and_congr ?_ Iff.rfl)
    · exact ⟨fun e => Fin.ext (Int.ofNat.inj e), fun e => by rw [e]⟩
    · exact ⟨fun e => Fin.ext (Int.ofNat.inj e), fun e => by rw [e]⟩
  have key : ∀ j : S180x16384x8x32.Idx, ScatterDims.resultIdx? dS j idx = some (ix4 a r n o)
      ↔ j 0 = a ∧ bin (j 0) (j 1) = r ∧ j 2 = n ∧ j 3 = o := fun j =>
    (iff_of_eq (congrArg (fun i => ScatterDims.resultIdx? dS i idx = some (ix4 a r n o)) (hj j))).trans
      (key4 (j 0) (j 1) (j 2) (j 3))
  rw [← Finset.sum_filter]
  refine congrArg (x (ix4 a r n o) + ·) ?_
  refine Finset.sum_nbij' (fun j => j 1) (fun p => ix4 a p n o) ?_ ?_ ?_ ?_ ?_
  · intro j hf
    obtain ⟨e0, e1, -, -⟩ := (key j).mp (Finset.mem_filter.mp hf).2
    exact Finset.mem_filter.mpr ⟨Finset.mem_univ _, by rw [← e1, e0]⟩
  · intro p hf
    exact Finset.mem_filter.mpr ⟨Finset.mem_univ _, (key _).mpr ⟨rfl, (Finset.mem_filter.mp hf).2, rfl, rfl⟩⟩
  · intro j hf
    obtain ⟨e0, e1, e2, e3⟩ := (key j).mp (Finset.mem_filter.mp hf).2
    rw [← e0, ← e2, ← e3]
    exact (hj j).symm
  · intro p hf
    rfl
  · intro j hf
    obtain ⟨e0, e1, e2, e3⟩ := (key j).mp (Finset.mem_filter.mp hf).2
    rw [← e0, ← e2, ← e3]
    exact congrArg upd (hj j)

/-- A pixel reads its own bin at each angle. -/
theorem gather_at (x : FVec Ideal S8x180x184 .f32) (n : Fin 8) (a : Fin 180) (p : Fin 16384) :
    Host.gather dG x idx (ix3 n a p) = x (ix3 n a (bin a p)) := by
  unfold Host.gather
  refine congrArg x (funext fun b => Fin.ext ?_)
  have st1 : GatherDims.start dG (ix3 n a p) idx 1 = min (idx (ix3 a p 0)).toInt.toNat 179 := by
    unfold GatherDims.start
    rw [dif_pos (by decide)]
    refine congrArg (fun i => min (idx i).toInt.toNat 179) (funext fun b => ?_)
    fin_cases b <;> rfl
  have st2 : GatherDims.start dG (ix3 n a p) idx 2 = min (idx (ix3 a p 1)).toInt.toNat 183 := by
    unfold GatherDims.start
    rw [dif_pos (by decide)]
    refine congrArg (fun i => min (idx i).toInt.toNat 183) (funext fun b => ?_)
    fin_cases b <;> rfl
  have ha := a.isLt
  have hr := (bin a p).isLt
  rw [h0, toInt_word (by decide)] at st1
  rw [h1, toInt_word (by decide)] at st2
  match b with
  | ⟨0, _⟩ => exact Nat.zero_add _
  | ⟨1, _⟩ => exact st1.trans (Nat.min_eq_left (by show a.val ≤ 179; omega))
  | ⟨2, _⟩ => exact st2.trans (Nat.min_eq_left (by show (bin a p).val ≤ 183; omega))

end Cert.HoughRef

end
-- ==== Proof.RefMask.lean ====
/-
  The reference's mask, at an index.
-/
module

public import proofs.«01_k».proof.Proof.RefFeat
public import proofs.«01_k».proof.Proof.RefScatter

@[expose] public section

set_option maxRecDepth 16384

noncomputable section

namespace Cert.HoughRef

open Cert.ReferenceIdeal Cert.ReferenceIdeal.Gen Cert.ReferenceIdeal.Read
open Idealize.ShloMosaic Idealize.SL.Sem

/-! ### The index words -/

/-- The bins of the pixels. -/
theorem v106_at (a : Fin 180) (q : Fin 16384) :
    val_main_v106 (F := Ideal) (ix2 a q) = Cert.Hough.rhoAt a.val q.val := by
  pointwise [
    val_main_v75, val_main_cst_1, val_main_v76, val_main_v77, val_main_v78, val_main_v79, val_main_v80, val_main_v81,
    val_main_cst_2, val_main_v82, val_main_v83, val_main_cst_3, val_main_v84, val_main_v85, val_main_v86, val_main_v87,
    val_main_v88, val_main_v89, val_main_v90, val_main_v91, val_main_v92, val_main_v93, val_main_v94, val_main_v95,
    val_main_v96, val_main_v97, val_main_v98, val_main_cst_4, val_main_v99, val_main_v100, val_main_v101, val_main_v102,
    val_main_c_5, val_main_v103, val_main_v104, val_main_c_6, val_main_c_7, val_main_call3_v0, val_main_call3_v1,
    val_main_call3_v2, val_main_call3_v3, val_main_call3_v4, val_main_v105, val_main_v106]
  rfl

theorem word_lt {N : ℕ} (hN : N ≤ 2 ^ 31) (a : Fin N) : (BitVec.ofNat 32 a.val).toNat < 2 ^ (32 - 1) := by
  have := a.isLt
  rw [BitVec.toNat_ofNat]
  omega

/-- The first of two joined words. -/
theorem pair_0 (y0 y1 : IVec S180x16384x1 32) (a : Fin 180) (q : Fin 16384) :
    concatenate S180x16384x2 2 [⟨S180x16384x1, y0⟩, ⟨S180x16384x1, y1⟩]
      concatenates_S180x16384x1_S180x16384x1_S180x16384x2_d2 (ix3 a q 0) = y0 (ix3 a q 0) :=
  concatenate_pair_apply_left (t := S180x16384x2) (s₁ := S180x16384x1) (s₂ := S180x16384x1) 2 y0 y1 _ (ix3 a q 0) rfl
    (ix3 a q 0) fun b => match b with
      | ⟨0, _⟩ => rfl
      | ⟨1, _⟩ => rfl
      | ⟨2, _⟩ => rfl

/-- The second of two joined words. -/
theorem pair_1 (y0 y1 : IVec S180x16384x1 32) (a : Fin 180) (q : Fin 16384) :
    concatenate S180x16384x2 2 [⟨S180x16384x1, y0⟩, ⟨S180x16384x1, y1⟩]
      concatenates_S180x16384x1_S180x16384x1_S180x16384x2_d2 (ix3 a q 1) = y1 (ix3 a q 0) :=
  concatenate_pair_apply_right (t := S180x16384x2) (s₁ := S180x16384x1) (s₂ := S180x16384x1) 2 y0 y1 _ (ix3 a q 1) rfl rfl
    (ix3 a q 0) (fun b => match b with
      | ⟨0, _⟩ => fun _ => rfl
      | ⟨1, _⟩ => fun _ => rfl
      | ⟨2, _⟩ => fun h => absurd rfl h) rfl

/-- The scatter's angle words. -/
theorem v126_0 (a : Fin 180) (q : Fin 16384) : val_main_v126 (F := Ideal) (ix3 a q 0) = BitVec.ofNat 32 a.val := by
  unfold val_main_v126
  refine (pair_0 _ _ a q).trans ?_
  pointwise [
    val_main_c_9, val_main_v113, val_main_v114, val_main_c_10, val_main_v115, val_main_v116, val_main_v117,
    val_main_c_11, val_main_v118, val_main_v119, val_main_c_12, val_main_v120, val_main_v121, val_main_v122,
    val_main_v123, val_main_v124, val_main_v110, val_main_v111]
  exact Routing.wrap_of_lt _ _ (word_lt (by decide) a)

/-- The scatter's bin words. -/
theorem v126_1 (a : Fin 180) (q : Fin 16384) :
    val_main_v126 (F := Ideal) (ix3 a q 1) = BitVec.ofNat 32 (Cert.Hough.rho a.val q.val).val := by
  unfold val_main_v126
  refine (pair_1 _ _ a q).trans ?_
  pointwise [
    val_main_c_9, val_main_v113, val_main_v114, val_main_c_10, val_main_v115, val_main_v116, val_main_v117,
    val_main_c_11, val_main_v118, val_main_v119, val_main_c_12, val_main_v120, val_main_v121, val_main_v122,
    val_main_v123, val_main_v124, val_main_v125]
  rw [v106_at, Cert.Hough.rhoAt_eq]
  exact Routing.wrap_of_lt _ _ (word_lt (by decide) (Cert.Hough.rho a.val q.val))

/-- The gather's angle words. -/
theorem v148_0 (a : Fin 180) (q : Fin 16384) : val_main_v148 (F := Ideal) (ix3 a q 0) = BitVec.ofNat 32 a.val := by
  unfold val_main_v148
  refine (pair_0 _ _ a q).trans ?_
  pointwise [
    val_main_v133, val_main_v134, val_main_c_15, val_main_v135, val_main_v136, val_main_c_16, val_main_v137,
    val_main_v138, val_main_v139, val_main_c_17, val_main_v140, val_main_v141, val_main_c_18, val_main_v142,
    val_main_v143, val_main_v144, val_main_v145, val_main_v146]
  exact Routing.wrap_of_lt _ _ (word_lt (by decide) a)

/-- The gather's bin words. -/
theorem v148_1 (a : Fin 180) (q : Fin 16384) :
    val_main_v148 (F := Ideal) (ix3 a q 1) = BitVec.ofNat 32 (Cert.Hough.rho a.val q.val).val := by
  unfold val_main_v148
  refine (pair_1 _ _ a q).trans ?_
  pointwise [
    val_main_v133, val_main_v134, val_main_c_15, val_main_v135, val_main_v136, val_main_c_16, val_main_v137,
    val_main_v138, val_main_v139, val_main_c_17, val_main_v140, val_main_v141, val_main_c_18, val_main_v142,
    val_main_v143, val_main_v144, val_main_v145, val_main_v146, val_main_v147]
  rw [v106_at, Cert.Hough.rhoAt_eq]
  exact Routing.wrap_of_lt _ _ (word_lt (by decide) (Cert.Hough.rho a.val q.val))

/-! ### The votes, their mean, and the mask -/

variable (x : FVec Ideal S8x128x128x128 .f32) (w1 : FVec Ideal S128x128x3x3 .f32)
  (gamma beta mean var : FVec Ideal S128 .f32) (w2 : FVec Ideal S32x128x1x1 .f32) (b2 : FVec Ideal S32 .f32)

/-- The updates: the features, the same at every angle. -/
theorem v127_at (a : Fin 180) (p : Fin 16384) (n : Fin 8) (o : Fin 32) :
    val_main_v127 (F := Ideal) x w1 gamma beta mean var w2 b2 (ix4 a p n o)
      = Cert.Hough.featAt x w1 gamma beta mean var w2 b2 n o (p.val / 128) (p.val % 128) := by
  pointwise [val_main_v127, val_main_v112, val_main_v108, val_main_v107]
  exact v74_at x w1 gamma beta mean var w2 b2 n o _ _

/-- The votes of a channel. -/
theorem v128_at (a : Fin 180) (r : Fin 184) (n : Fin 8) (o : Fin 32) :
    val_main_v128 (F := Ideal) x w1 gamma beta mean var w2 b2 (ix4 a r n o)
      = ∑ p : Fin 16384, if Cert.Hough.rho a.val p.val = r then
          Cert.Hough.featAt x w1 gamma beta mean var w2 b2 n o (p.val / 128) (p.val % 128) else 0 := by
  unfold val_main_v128
  refine (scatter_at _ (fun a p => Cert.Hough.rho a.val p.val) v126_0 v126_1 _ _ a r n o).trans ?_
  have z : val_main_v109 (F := Ideal) (ix4 a r n o) = 0 := by
    pointwise [val_main_v109, val_main_cst_8]
  rw [z, zero_add]
  simp only [v127_at]

/-- The votes' mean over the channels. -/
theorem v132_at (n : Fin 8) (a : Fin 180) (r : Fin 184) :
    val_main_v132 (F := Ideal) x w1 gamma beta mean var w2 b2 (ix3 n a r)
      = Ideal.div (∑ o : Fin 32, ∑ p : Fin 16384, if Cert.Hough.rho a.val p.val = r then
          Cert.Hough.featAt x w1 gamma beta mean var w2 b2 n o (p.val / 128) (p.val % 128) else 0)
        (Ideal.ofBits .f32 0x42000000#32) := by
  pointwise [
    val_main_v129, val_main_cst_13, val_main_v130, val_main_cst_14, val_main_v131, val_main_v132]
  simp only [v128_at]

/-- The mask. -/
theorem v158_at (n : Fin 8) (o : Fin 32) (h w : Fin 128) :
    val_main_v158 (F := Ideal) x w1 gamma beta mean var w2 b2 (ix4 n o h w)
      = Ideal.logistic (∑ a : Fin 180, Ideal.div (∑ o : Fin 32, ∑ p : Fin 16384,
          if Cert.Hough.rho a.val p.val = Cert.Hough.rho a.val (128 * h.val + w.val) then
            Cert.Hough.featAt x w1 gamma beta mean var w2 b2 n o (p.val / 128) (p.val % 128) else 0)
        (Ideal.ofBits .f32 0x42000000#32)) := by
  pointwise [
    val_main_cst_19, val_main_v150, val_main_v151, val_main_v152, val_main_cst_20, val_main_v153, val_main_v154,
    val_main_cst_21, val_main_v155, val_main_v156, val_main_v157, val_main_v158]
  refine congrArg (fun s => Ideal.logistic s) (Finset.sum_congr rfl fun a _ => ?_)
  unfold val_main_v149
  refine (gather_at _ (fun a p => Cert.Hough.rho a.val p.val) v148_0 v148_1 _ n a _).trans ?_
  refine (v132_at x w1 gamma beta mean var w2 b2 n a _).trans ?_
  have e : h.val * 128 + w.val = 128 * h.val + w.val := congrArg (· + w.val) (Nat.mul_comm h.val 128)
  simp only [e]

end Cert.HoughRef

end
-- ==== Proof.Equation.lean ====
/-
  The equation of the two masks: the kernel takes the mean over the channels before it votes, the reference after.
-/
module

public import proofs.«01_k».proof.Proof.Region2
public import proofs.«01_k».proof.Proof.RefMask

@[expose] public section

set_option maxRecDepth 16384

noncomputable section

namespace Cert.Hough

open Idealize.ShloMosaic Idealize.SL.Sem

theorem word_inv : Ideal.ofBits .f32 0x3D000000#32 = ((1 / 32 : ℝ) : EReal) := by
  simp [Ideal.ofBits, Ideal.ieee]
  rw [← EReal.coe_mul]
  norm_num

theorem word_32 : Ideal.ofBits .f32 0x42000000#32 = ((32 : ℝ) : EReal) := by
  simp [Ideal.ofBits, Ideal.ieee]
  rw [← EReal.coe_mul]
  norm_num

/-- A finite sum times a constant that is finite and not negative. -/
theorem sum_mul_const {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hr) (EReal.coe_ne_top r) _ _

/-- Voting the channel means is the channel mean of the votes. -/
theorem gain_mean (f : Fin 32 → ℕ → EReal) (a p : ℕ) :
    Cert.HoughVote.gain (fun q => (∑ o : Fin 32, f o q) * Ideal.ofBits .f32 0x3D000000#32) a p
      = Ideal.div (∑ o : Fin 32, ∑ q : Fin 16384, if rho a q.val = rho a p then f o q.val else 0)
          (Ideal.ofBits .f32 0x42000000#32) := by
  rw [word_32, Ideal.div_coe (by norm_num), Finset.sum_comm, sum_mul_const _ _ _ (by norm_num)]
  unfold Cert.HoughVote.gain
  refine Finset.sum_congr rfl fun q _ => ?_
  rw [word_inv]
  by_cases e : rho a q.val = rho a p
  · simp only [if_pos e]
  · simp only [if_neg e, Finset.sum_const_zero, zero_mul]

end Cert.Hough

end
-- ==== Proof.KRun.lean ====
/-
  The run of the kernel's program, read at the arrays it returns.
-/
module

public import proofs.«01_k».proof.Proof.Gen.KernelIdeal.Frame

@[expose] public section

set_option maxRecDepth 16384

noncomputable section

namespace Cert.HoughRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel's run read at its results: at the compiled mesh, from any memory with zero counters, every weakly fair
    execution ends with the two result arrays holding the last boundary's contents and the arguments as launched. -/
theorem results : θ_run defs (onTc (τ := τ) (main (F := F))) ⟨m, fun _ => 0, ρ⟩ (fun r => ∀ c : Dev nD,
      r.2.mem ((c.tc : Thread nD τ).loc main_v52) = W11 m ρ c (Proc.devRef .tc main_v52)
      ∧ r.2.mem ((c.tc : Thread nD τ).loc main_v53) = W11 m ρ c (Proc.devRef .tc main_v53)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h _ c =>
      ⟨h c _ (mem_uc main_v52 (by decide)), h c _ (mem_uc main_v53 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c)⟩)

end Cert.HoughRun

end
-- ==== Proof.Results.lean ====
/-
  The two programs' results are the same arrays, and the reference's run in the terms they are compared in.
-/
module

public import proofs.«01_k».proof.Proof.Equation
public import proofs.«01_k».proof.Proof.KRun

@[expose] public section

set_option maxRecDepth 16384

noncomputable section

namespace Cert.Hough

open Idealize.ShloMosaic Idealize.SL.Sem Cert.HoughHost Cert.HoughConv Cert.HoughMask

section Equal

open Cert.KernelIdeal Cert.KernelIdeal.Gen

variable (m : (ℓ : Loc nD τ sig) → Buf (Elt Ideal) ℓ) (ρ : Dev nD → PrngReg) (c : Dev nD)
  {x : FVec Ideal S8x128x128x128 .f32} {w1 : FVec Ideal S128x128x3x3 .f32} {gamma beta mean var : FVec Ideal S128 .f32}
  {w2 : FVec Ideal S32x128x1x1 .f32} {b2 : FVec Ideal S32 .f32}
  (e0 : x = argX m c) (e1 : w1 = argW1 m c) (e2 : gamma = argGamma m c) (e3 : beta = argBeta m c)
  (e4 : mean = argMean m c) (e5 : var = argVar m c) (e6 : w2 = argW2 m c) (e7 : b2 = argB2 m c)

/-- An index of a result is its four coordinates. -/
theorem idx_eq (i : S8x32x128x128.Idx) : ∃ (n : Fin 8) (o : Fin 32) (h w : Fin 128), i = ix4 n o h w :=
  ⟨i 0, i 1, i 2, i 3, by
    funext b
    fin_cases b <;> rfl⟩

include e0 e1 e2 e3 e4 e5 e6 e7

/-- The reference's features are the kernel's. -/
theorem out_eq : (Cert.ReferenceIdeal.Read.val_main_v74 (F := Ideal) x w1 gamma beta mean var w2 b2
    : FVec Ideal S8x32x128x128 .f32) = W11 m ρ c (Proc.devRef .tc main_v53) := by
  subst e0 e1 e2 e3 e4 e5 e6 e7
  funext i
  obtain ⟨n, o, h, w, rfl⟩ := idx_eq i
  refine (Cert.HoughRef.v74_at _ _ _ _ _ _ _ _ n o h w).trans (Eq.trans ?_ (out_at m ρ c n o h w).symm)
  have hw := w.isLt
  refine congrArg₂ (featAt _ _ _ _ _ _ _ _ n o) ?_ ?_
  · omega
  · omega

/-- The reference's mask is the kernel's. -/
theorem mask_eq : (Cert.ReferenceIdeal.Read.val_main_v158 (F := Ideal) x w1 gamma beta mean var w2 b2
    : FVec Ideal S8x32x128x128 .f32) = W11 m ρ c (Proc.devRef .tc main_v52) := by
  subst e0 e1 e2 e3 e4 e5 e6 e7
  funext i
  obtain ⟨n, o, h, w, rfl⟩ := idx_eq i
  refine (Cert.HoughRef.v158_at _ _ _ _ _ _ _ _ n o h w).trans (Eq.trans ?_ (mask_at m ρ c n o h w).symm)
  refine congrArg Ideal.logistic ?_
  rw [← Fin.sum_univ_eq_sum_range]
  exact Finset.sum_congr rfl fun a _ => (gain_mean (fun o q => feat m c n o q) a.val (128 * h.val + w.val)).symm

end Equal

section Reference

open Cert.ReferenceIdeal Cert.ReferenceIdeal.Gen Cert.ReferenceIdeal.Read

variable (m : (ℓ : Loc nD τ sig) → Buf (Elt Ideal) ℓ) (ρ : Dev nD → PrngReg)

/-- The reference runs, its arguments end unchanged and every counter ends at zero. -/
theorem frame_reference : θ_run (defs (F := Ideal)) (onTc (τ := τ) (main (F := Ideal))) ⟨m, fun _ => 0, ρ⟩
    (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => (h c).2.2, sem_eq_zero_of_no_sems (by decide) r.2⟩)
    (Cert.ReferenceIdeal.Value.run (F := Ideal) m ρ)

end Reference

end Cert.Hough

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Results
public import Idealize.ShloMosaic.Adequacy
public import Idealize.ShloMosaic.Init

@[expose] public section

noncomputable section

namespace Cert.Proof

open Idealize.ShloMosaic Idealize.SL.Sem Cert.Kernel

/-- The two programs end with the same results. -/
theorem equal : Cert.algebraic_KernelIdeal_ReferenceIdeal := by
  intro m g m' g' _ hagree
  refine ⟨fun c => Cert.KernelIdeal.Gen.W11 m g c (Proc.devRef .tc Cert.KernelIdeal.main_v52),
    fun c => Cert.KernelIdeal.Gen.W11 m g c (Proc.devRef .tc Cert.KernelIdeal.main_v53), Cert.HoughRun.results m g, ?_⟩
  refine (θ_run Cert.ReferenceIdeal.defs _ _).mono (fun r h c => ?_) (Cert.ReferenceIdeal.Value.run (F := Ideal) m' g')
  obtain ⟨e0, e1, e2, e3, e4, e5, e6, e7⟩ := hagree c
  refine ⟨(h c).1.trans ((Cert.ReferenceIdeal.Read.val_main_v158_eq _).trans ?_),
    (h c).2.1.trans ((Cert.ReferenceIdeal.Read.val_main_v74_eq _).trans ?_), (h c).2.2⟩
  · exact Cert.Hough.mask_eq m g c e0 e1 e2 e3 e4 e5 e6 e7
  · exact Cert.Hough.out_eq m g c e0 e1 e2 e3 e4 e5 e6 e7

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.Hough.frame_reference m ρ, trivial, equal⟩

end Cert.Proof

end
